-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_inputs [hPre_finite_inputs : Cert.Pre_finite_inputs.Facts] (m : (ℓ : Loc Cert.DiffIdeal.nD Cert.DiffIdeal.τ Cert.DiffIdeal.sig) → Buf (Elt Ideal) ℓ) : Prop :=
  ∀ c : Dev Cert.DiffIdeal.nD,
    (Cert.Pre_finite_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).1 = (fun _ => 1#1)
    ∧ (Cert.Pre_finite_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.1 = (fun _ => 1#1)
    ∧ (Cert.Pre_finite_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.1 = (fun _ => 1#1)
    ∧ (Cert.Pre_finite_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.1 = (fun _ => 1#1)
    ∧ (Cert.Pre_finite_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_inputs [hPre_finite_inputs : Cert.Pre_finite_inputs.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).1 = (fun _ => 1#1)
    ∧ (Cert.Pre_finite_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.1 = (fun _ => 1#1)
    ∧ (Cert.Pre_finite_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.2.1 = (fun _ => 1#1)
    ∧ (Cert.Pre_finite_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.2.2.1 = (fun _ => 1#1)
    ∧ (Cert.Pre_finite_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_scores [hPre_finite_scores : Cert.Pre_finite_scores.Facts] (m : (ℓ : Loc Cert.CrossIdeal.nD Cert.CrossIdeal.τ Cert.CrossIdeal.sig) → Buf (Elt Ideal) ℓ) : Prop :=
  ∀ c : Dev Cert.CrossIdeal.nD,
    (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))).1 = (fun _ => 1#1)
    ∧ (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))).2.1 = (fun _ => 1#1)
    ∧ (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))).2.2.1 = (fun _ => 1#1)
    ∧ (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))).2.2.2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_scores [hPre_finite_scores : Cert.Pre_finite_scores.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_scores.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))).1 = (fun _ => 1#1)
    ∧ (Cert.Pre_finite_scores.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))).2.1 = (fun _ => 1#1)
    ∧ (Cert.Pre_finite_scores.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))).2.2.1 = (fun _ => 1#1)
    ∧ (Cert.Pre_finite_scores.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))).2.2.2 = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffIdeal_pre_finite_inputs [hDiffIdeal : Cert.DiffIdeal.Facts] [hPre_finite_inputs : Cert.Pre_finite_inputs.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_inputs m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_DiffRefIdeal_pre_finite_inputs [hDiffRefIdeal : Cert.DiffRefIdeal.Facts] [hPre_finite_inputs : Cert.Pre_finite_inputs.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_inputs m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossIdeal_pre_finite_scores [hCrossIdeal : Cert.CrossIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_scores m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_CrossRefIdeal_pre_finite_scores [hCrossRefIdeal : Cert.CrossRefIdeal.Facts] [hPre_finite_scores : Cert.Pre_finite_scores.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_scores m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def preserves_Diff_DiffIdeal : Prop :=
  IdealRules.named_const.Statement Cert.DiffIdeal.κ "mask" .f32 0xF149F2CA#32 ⊥
  ∧ IdealRules.named_const.Statement Cert.DiffIdeal.κ "c" .f32 0x3E0293EE#32 (((11863283 / 134217728) * (Real.log 2)⁻¹ : ℝ) : EReal)

def algebraic_DiffIdeal_DiffRefIdeal_pre_finite_inputs [hDiffIdeal : Cert.DiffIdeal.Facts] [hDiffRefIdeal : Cert.DiffRefIdeal.Facts] [hPre_finite_inputs : Cert.Pre_finite_inputs.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_inputs m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)) →
    ∃ (v0 : (c : Dev Cert.DiffIdeal.nD) → Buf (Elt Ideal) ((c.tc : Thread Cert.DiffIdeal.nD Cert.DiffIdeal.τ).loc Cert.DiffIdeal.main_v5)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v5) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v67) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v28)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v28) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v126) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v12) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)) →
    ∃ (v0 : (c : Dev Cert.MixNormIdeal.nD) → Buf (Elt Ideal) ((c.tc : Thread Cert.MixNormIdeal.nD Cert.MixNormIdeal.τ).loc Cert.MixNormIdeal.main_v2)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v2) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v14) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v2)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v2) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v14) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Cross_CrossIdeal : Prop :=
  IdealRules.named_const.Statement Cert.CrossIdeal.κ "c" .f32 0x3E0293EE#32 (((11863283 / 134217728) * (Real.log 2)⁻¹ : ℝ) : EReal)

def algebraic_CrossIdeal_CrossRefIdeal_pre_finite_scores [hCrossIdeal : Cert.CrossIdeal.Facts] [hCrossRefIdeal : Cert.CrossRefIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_scores m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v8_0)) (v1 : (c : Dev Cert.CrossIdeal.nD) → Buf (Elt Ideal) ((c.tc : Thread Cert.CrossIdeal.nD Cert.CrossIdeal.τ).loc Cert.CrossIdeal.main_v8_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v8_0) = v0 c
          ∧ r.2.mem ((c.tc : Thread Cert.CrossIdeal.nD Cert.CrossIdeal.τ).loc Cert.CrossIdeal.main_v8_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v47) = v0 c
          ∧ r.2.mem ((c.tc : Thread Cert.CrossRefIdeal.nD Cert.CrossRefIdeal.τ).loc Cert.CrossRefIdeal.main_v62) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def Claim : Prop :=
  ∃ (hDiff : Cert.Diff.Facts) (hDiffIdeal : Cert.DiffIdeal.Facts) (hDiffRefIdeal : Cert.DiffRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hFin : Cert.Fin.Facts) (hFinIdeal : Cert.FinIdeal.Facts) (hFinRefIdeal : Cert.FinRefIdeal.Facts) (hMixNorm : Cert.MixNorm.Facts) (hMixNormIdeal : Cert.MixNormIdeal.Facts) (hMixNormRefIdeal : Cert.MixNormRefIdeal.Facts) (hMemNorm : Cert.MemNorm.Facts) (hMemNormIdeal : Cert.MemNormIdeal.Facts) (hMemNormRefIdeal : Cert.MemNormRefIdeal.Facts) (hMemKv : Cert.MemKv.Facts) (hMemKvIdeal : Cert.MemKvIdeal.Facts) (hMemKvRefIdeal : Cert.MemKvRefIdeal.Facts) (hCross : Cert.Cross.Facts) (hCrossIdeal : Cert.CrossIdeal.Facts) (hCrossRefIdeal : Cert.CrossRefIdeal.Facts) (hPre_finite_inputs : Cert.Pre_finite_inputs.Facts) (hPre_finite_scores : Cert.Pre_finite_scores.Facts),
    quiescent_Diff (hDiff := hDiff)
    ∧ quiescent_DiffIdeal (hDiffIdeal := hDiffIdeal)
    ∧ quiescent_DiffIdeal_pre_finite_inputs (hDiffIdeal := hDiffIdeal) (hPre_finite_inputs := hPre_finite_inputs)
    ∧ quiescent_DiffRefIdeal (hDiffRefIdeal := hDiffRefIdeal)
    ∧ quiescent_DiffRefIdeal_pre_finite_inputs (hDiffRefIdeal := hDiffRefIdeal) (hPre_finite_inputs := hPre_finite_inputs)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ quiescent_Fin (hFin := hFin)
    ∧ quiescent_FinIdeal (hFinIdeal := hFinIdeal)
    ∧ quiescent_FinRefIdeal (hFinRefIdeal := hFinRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Cross (hCross := hCross)
    ∧ quiescent_CrossIdeal (hCrossIdeal := hCrossIdeal)
    ∧ quiescent_CrossIdeal_pre_finite_scores (hCrossIdeal := hCrossIdeal) (hPre_finite_scores := hPre_finite_scores)
    ∧ quiescent_CrossRefIdeal (hCrossRefIdeal := hCrossRefIdeal)
    ∧ quiescent_CrossRefIdeal_pre_finite_scores (hCrossRefIdeal := hCrossRefIdeal) (hPre_finite_scores := hPre_finite_scores)
    ∧ preserves_Diff_DiffIdeal
    ∧ algebraic_DiffIdeal_DiffRefIdeal_pre_finite_inputs (hDiffIdeal := hDiffIdeal) (hDiffRefIdeal := hDiffRefIdeal) (hPre_finite_inputs := hPre_finite_inputs)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
    ∧ preserves_Fin_FinIdeal
    ∧ algebraic_FinIdeal_FinRefIdeal (hFinIdeal := hFinIdeal) (hFinRefIdeal := hFinRefIdeal)
    ∧ preserves_MixNorm_MixNormIdeal
    ∧ algebraic_MixNormIdeal_MixNormRefIdeal (hMixNormIdeal := hMixNormIdeal) (hMixNormRefIdeal := hMixNormRefIdeal)
    ∧ preserves_MemNorm_MemNormIdeal
    ∧ algebraic_MemNormIdeal_MemNormRefIdeal (hMemNormIdeal := hMemNormIdeal) (hMemNormRefIdeal := hMemNormRefIdeal)
    ∧ preserves_MemKv_MemKvIdeal
    ∧ algebraic_MemKvIdeal_MemKvRefIdeal (hMemKvIdeal := hMemKvIdeal) (hMemKvRefIdeal := hMemKvRefIdeal)
    ∧ preserves_Cross_CrossIdeal
    ∧ algebraic_CrossIdeal_CrossRefIdeal_pre_finite_scores (hCrossIdeal := hCrossIdeal) (hCrossRefIdeal := hCrossRefIdeal) (hPre_finite_scores := hPre_finite_scores)
-- ==== Pre_finite_inputs.lean ====
abbrev S4x4096x12288 : Shape := ⟨3, ![4, 4096, 12288]⟩
abbrev S4x4096x4096 : Shape := ⟨3, ![4, 4096, 4096]⟩
abbrev S128 : Shape := ⟨1, ![128]⟩
abbrev S256 : Shape := ⟨1, ![256]⟩
abbrev S_ : Shape := ⟨0, ![]⟩

class Facts : Prop where
  bitsLt_bf16_f32 : FTy.bits .bf16 < FTy.bits .f32
  bcast_S_S4x4096x12288 : S_.BroadcastsInDim S4x4096x12288 (![] : Fin 0 → Fin S4x4096x12288.rank)
  bcast_S_S128 : S_.BroadcastsInDim S128 (![] : Fin 0 → Fin S128.rank)

variable [Facts]

def fn {F : FTy → Type} [FloatOps F] (main_arg0 : FVec F S4x4096x12288 .bf16) (main_arg1 : FVec F S4x4096x4096 .bf16) (main_arg2 : FVec F S128 .f32) (main_arg3 : FVec F S128 .f32) (main_arg4 : FVec F S128 .f32) (main_arg5 : FVec F S128 .f32) (main_arg6 : FVec F S256 .f32) : IVec S4x4096x12288 1 × IVec S128 1 × IVec S128 1 × IVec S128 1 × IVec S128 1 :=
  let main_v0 : FVec F S4x4096x12288 .f32 := (extf .f32 · bitsLt_bf16_f32) main_arg0
  let main_v1 : FVec F S4x4096x12288 .f32 := Host.absf main_v0
  let main_cst : FVec F S_ .f32 := constant S_ .f32 0x7F800000#32
  let main_v2 : FVec F S4x4096x12288 .f32 := broadcastInDim S4x4096x12288 ![] bcast_S_S4x4096x12288 main_cst
  let main_v3 : IVec S4x4096x12288 1 := cmpf .olt main_v1 main_v2
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_v7 : FVec F S128 .f32 := Host.absf main_arg3
  let main_cst_1 : FVec F S_ .f32 := constant S_ .f32 0x7F800000#32
  let main_v8 : FVec F S128 .f32 := broadcastInDim S128 ![] bcast_S_S128 main_cst_1
  let main_v9 : IVec S128 1 := cmpf .olt main_v7 main_v8
  let main_v10 : FVec F S128 .f32 := Host.absf main_arg4
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_v13 : FVec F S128 .f32 := Host.absf main_arg5
  let main_cst_3 : FVec F S_ .f32 := constant S_ .f32 0x7F800000#32
  let main_v14 : FVec F S128 .f32 := broadcastInDim S128 ![] bcast_S_S128 main_cst_3
  let main_v15 : IVec S128 1 := cmpf .olt main_v13 main_v14
  (main_v3, main_v6, main_v9, main_v12, main_v15)
-- ==== Pre_finite_scores.lean ====
abbrev S16384x4096 : Shape := ⟨2, ![16384, 4096]⟩
abbrev S1024x1024 : Shape := ⟨2, ![1024, 1024]⟩
abbrev S1x4096 : Shape := ⟨2, ![1, 4096]⟩
abbrev S1x4096x512 : Shape := ⟨3, ![1, 4096, 512]⟩
abbrev S1x512x4096 : Shape := ⟨3, ![1, 512, 4096]⟩
abbrev S1024x512 : Shape := ⟨2, ![1024, 512]⟩
abbrev S_ : Shape := ⟨0, ![]⟩

class Facts : Prop where
  slices_S1024x1024_S1024x512_0_0 : S1024x1024.Slices ![0, 0] S1024x512
  bcast_S_S16384x4096 : S_.BroadcastsInDim S16384x4096 (![] : Fin 0 → Fin S16384x4096.rank)
  bitsLt_bf16_f32 : FTy.bits .bf16 < FTy.bits .f32
  bcast_S_S1024x512 : S_.BroadcastsInDim S1024x512 (![] : Fin 0 → Fin S1024x512.rank)
  bcast_S_S1x4096 : S_.BroadcastsInDim S1x4096 (![] : Fin 0 → Fin S1x4096.rank)
  bcast_S_S1x4096x512 : S_.BroadcastsInDim S1x4096x512 (![] : Fin 0 → Fin S1x4096x512.rank)

variable [Facts]

def fn {F : FTy → Type} [FloatOps F] (main_arg0 : FVec F S16384x4096 .f32) (main_arg1 : FVec F S1024x1024 .bf16) (main_arg2 : FVec F S1x4096 .f32) (main_arg3 : FVec F S1x4096x512 .f32) (main_arg4 : FVec F S1x512x4096 .f32) (main_arg5 : FVec F S1x4096 .f32) : IVec S16384x4096 1 × IVec S1024x512 1 × IVec S1x4096 1 × IVec S1x4096x512 1 :=
  let main_v0 : FVec F S1024x512 .bf16 := (extractStridedSlice S1024x512 ![0, 0] · slices_S1024x1024_S1024x512_0_0) main_arg1
  let main_v1 : FVec F S16384x4096 .f32 := Host.absf main_arg0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S1024x512 .f32 := (extf .f32 · bitsLt_bf16_f32) main_v0
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_v8 : FVec F S1x4096 .f32 := Host.absf main_arg2
  let main_cst_1 : FVec F S_ .f32 := constant S_ .f32 0x7F800000#32
  let main_v9 : FVec F S1x4096 .f32 := broadcastInDim S1x4096 ![] bcast_S_S1x4096 main_cst_1
  let main_v10 : IVec S1x4096 1 := cmpf .olt main_v8 main_v9
  let main_v11 : FVec F S1x4096x512 .f32 := Host.absf main_arg3
  let main_cst_2 : FVec F S_ .f32 := constant S_ .f32 0x7F800000#32
  let main_v12 : FVec F S1x4096x512 .f32 := broadcastInDim S1x4096x512 ![] bcast_S_S1x4096x512 main_cst_2
  let main_v13 : IVec S1x4096x512 1 := cmpf .olt main_v11 main_v12
  (main_v3, main_v7, main_v10, main_v13)
-- ==== Diff.lean ====
abbrev S4x4096x12288 : Shape := ⟨3, ![4, 4096, 12288]⟩
abbrev S4x4096x4096 : Shape := ⟨3, ![4, 4096, 4096]⟩
abbrev S128 : Shape := ⟨1, ![128]⟩
abbrev S256 : Shape := ⟨1, ![256]⟩
abbrev S1x128 : Shape := ⟨2, ![1, 128]⟩
abbrev S1x256 : Shape := ⟨2, ![1, 256]⟩
abbrev S1x512x256 : Shape := ⟨3, ![1, 512, 256]⟩
abbrev S1x4096x256 : Shape := ⟨3, ![1, 4096, 256]⟩
abbrev S1x512x128 : Shape := ⟨3, ![1, 512, 128]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x12288, .bf16⟩
  | .hbm, ⟨1, _⟩ => ⟨S4x4096x4096, .bf16⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x256, .f32⟩
  | .hbm, ⟨12, _⟩ => ⟨S4x4096x4096, .bf16⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x512x256, .bf16⟩
  | .local _ .vmem, ⟨5, _⟩ => ⟨S1x512x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x256, .f32⟩
  | .local _ .vmem, ⟨11, _⟩ => ⟨S1x512x256, .bf16⟩
  | .local _ .vmem, ⟨12, _⟩ => ⟨S1x512x256, .bf16⟩
  | _, _ => ⟨S4x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 3 → Nat :=
  let c0_2 : Index := 0#32
  let arg2 : BitVec 32 := BitVec.ofNat 32 (i 2).val
  let c512_i32 : BitVec 32 := 512#32
  let v0 : BitVec 32 := Scalar.muli arg2 c512_i32
  let v1 : BitVec 32 := v0
  let v4 : Index := Scalar.indexCast v1
  let c0_3 : Index := 0#32
  ![0, v4.toNat, 0]
def k0_off2 (i : grid0.Coords) : Fin 3 → Nat :=
  let c0_4 : Index := 0#32
  let arg2 : BitVec 32 := BitVec.ofNat 32 (i 2).val
  let c512_i32 : BitVec 32 := 512#32
  let v0 : BitVec 32 := Scalar.muli arg2 c512_i32
  let v1 : BitVec 32 := v0
  let v7 : Index := Scalar.indexCast v1
  let c0_5 : Index := 0#32
  ![0, v7.toNat, 0]
@[reducible] def k0_t1_loop (i : grid0.Coords) : Scf.Loop 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_11 : BitVec 32 := 1#32
  ⟨c0_i32, v31, c1_i32_11⟩
def k0_mult2 (i : grid0.Coords) (k0_t1 : Fin (k0_t1_loop i).trips) : BitVec 32 :=
  let c0_i32 : BitVec 32 := 0#32
  let c1_i32_11 : BitVec 32 := 1#32
  let arg13 : BitVec 32 := Scf.iv c0_i32 c1_i32_11 k0_t1
  let c512_i32_49 : BitVec 32 := 512#32
  let v112 : BitVec 32 := Scalar.muli arg13 c512_i32_49
  v112
def k0_off3 (i : grid0.Coords) (k0_t1 : Fin (k0_t1_loop i).trips) : Fin 3 → Nat :=
  let c0_50 : Index := 0#32
  let c0_i32 : BitVec 32 := 0#32
  let c1_i32_11 : BitVec 32 := 1#32
  let arg13 : BitVec 32 := Scf.iv c0_i32 c1_i32_11 k0_t1
  let c512_i32_49 : BitVec 32 := 512#32
  let v112 : BitVec 32 := Scalar.muli arg13 c512_i32_49
  let v113 : BitVec 32 := v112
  let v114 : Index := Scalar.indexCast v113
  let c0_51 : Index := 0#32
  ![0, v114.toNat, 0]
def k0_off4 (i : grid0.Coords) (k0_t1 : Fin (k0_t1_loop i).trips) : Fin 3 → Nat :=
  let c0_53 : Index := 0#32
  let c0_i32 : BitVec 32 := 0#32
  let c1_i32_11 : BitVec 32 := 1#32
  let arg13 : BitVec 32 := Scf.iv c0_i32 c1_i32_11 k0_t1
  let c512_i32_49 : BitVec 32 := 512#32
  let v112 : BitVec 32 := Scalar.muli arg13 c512_i32_49
  let v113 : BitVec 32 := v112
  let v118 : Index := Scalar.indexCast v113
  let c0_54 : Index := 0#32
  ![0, v118.toNat, 0]
@[reducible] def k0_t2_loop (i : grid0.Coords) : Scf.Loop 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let v28 : BitVec 32 := Scalar.addi c0_i32 v27
  let c1_i32_12 : BitVec 32 := 1#32
  ⟨v31, v28, c1_i32_12⟩
def k0_mult3 (i : grid0.Coords) (k0_t2 : Fin (k0_t2_loop i).trips) : BitVec 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_12 : BitVec 32 := 1#32
  let arg13 : BitVec 32 := Scf.iv v31 c1_i32_12 k0_t2
  let c512_i32_49 : BitVec 32 := 512#32
  let v112 : BitVec 32 := Scalar.muli arg13 c512_i32_49
  v112
def k0_off5 (i : grid0.Coords) (k0_t2 : Fin (k0_t2_loop i).trips) : Fin 3 → Nat :=
  let c0_50 : Index := 0#32
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_12 : BitVec 32 := 1#32
  let arg13 : BitVec 32 := Scf.iv v31 c1_i32_12 k0_t2
  let c512_i32_49 : BitVec 32 := 512#32
  let v112 : BitVec 32 := Scalar.muli arg13 c512_i32_49
  let v113 : BitVec 32 := v112
  let v114 : Index := Scalar.indexCast v113
  let c0_51 : Index := 0#32
  ![0, v114.toNat, 0]
def k0_off6 (i : grid0.Coords) (k0_t2 : Fin (k0_t2_loop i).trips) : Fin 3 → Nat :=
  let c0_53 : Index := 0#32
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_12 : BitVec 32 := 1#32
  let arg13 : BitVec 32 := Scf.iv v31 c1_i32_12 k0_t2
  let c512_i32_49 : BitVec 32 := 512#32
  let v112 : BitVec 32 := Scalar.muli arg13 c512_i32_49
  let v113 : BitVec 32 := v112
  let v118 : Index := Scalar.indexCast v113
  let c0_54 : Index := 0#32
  ![0, v118.toNat, 0]
def k0_off7 (i : grid0.Coords) : Fin 3 → Nat :=
  let c0_15 : Index := 0#32
  let arg2 : BitVec 32 := BitVec.ofNat 32 (i 2).val
  let c512_i32 : BitVec 32 := 512#32
  let v0 : BitVec 32 := Scalar.muli arg2 c512_i32
  let v1 : BitVec 32 := v0
  let v38 : Index := Scalar.indexCast v1
  let c128_16 : Index := 128#32
  ![0, v38.toNat, 128]
@[reducible] def k0_t3_loop (i : grid0.Coords) : Scf.Loop 32 :=
  let c0_i32_25 : BitVec 32 := 0#32
  let arg2 : BitVec 32 := BitVec.ofNat 32 (i 2).val
  let v61 : BitVec 32 := Scalar.subi arg2 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_27 : BitVec 32 := 1#32
  ⟨c0_i32_25, v65, c1_i32_27⟩
def k0_mult4 (i : grid0.Coords) (k0_t3 : Fin (k0_t3_loop i).trips) : BitVec 32 :=
  let c0_i32_25 : BitVec 32 := 0#32
  let c1_i32_27 : BitVec 32 := 1#32
  let arg13 : BitVec 32 := Scf.iv c0_i32_25 c1_i32_27 k0_t3
  let c512_i32_49 : BitVec 32 := 512#32
  let v112 : BitVec 32 := Scalar.muli arg13 c512_i32_49
  v112
def k0_off8 (i : grid0.Coords) (k0_t3 : Fin (k0_t3_loop i).trips) : Fin 3 → Nat :=
  let c0_50 : Index := 0#32
  let c0_i32_25 : BitVec 32 := 0#32
  let c1_i32_27 : BitVec 32 := 1#32
  let arg13 : BitVec 32 := Scf.iv c0_i32_25 c1_i32_27 k0_t3
  let c512_i32_49 : BitVec 32 := 512#32
  let v112 : BitVec 32 := Scalar.muli arg13 c512_i32_49
  let v113 : BitVec 32 := v112
  let v114 : Index := Scalar.indexCast v113
  let c128_51 : Index := 128#32
  ![0, v114.toNat, 128]
def k0_off9 (i : grid0.Coords) (k0_t3 : Fin (k0_t3_loop i).trips) : Fin 3 → Nat :=
  let c0_53 : Index := 0#32
  let c0_i32_25 : BitVec 32 := 0#32
  let c1_i32_27 : BitVec 32 := 1#32
  let arg13 : BitVec 32 := Scf.iv c0_i32_25 c1_i32_27 k0_t3
  let c512_i32_49 : BitVec 32 := 512#32
  let v112 : BitVec 32 := Scalar.muli arg13 c512_i32_49
  let v113 : BitVec 32 := v112
  let v118 : Index := Scalar.indexCast v113
  let c0_54 : Index := 0#32
  ![0, v118.toNat, 0]
@[reducible] def k0_t4_loop (i : grid0.Coords) : Scf.Loop 32 :=
  let c0_i32_25 : BitVec 32 := 0#32
  let arg2 : BitVec 32 := BitVec.ofNat 32 (i 2).val
  let v61 : BitVec 32 := Scalar.subi arg2 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let v62 : BitVec 32 := Scalar.addi c0_i32_25 v61
  let c1_i32_28 : BitVec 32 := 1#32
  ⟨v65, v62, c1_i32_28⟩
def k0_mult5 (i : grid0.Coords) (k0_t4 : Fin (k0_t4_loop i).trips) : BitVec 32 :=
  let c0_i32_25 : BitVec 32 := 0#32
  let arg2 : BitVec 32 := BitVec.ofNat 32 (i 2).val
  let v61 : BitVec 32 := Scalar.subi arg2 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg13 : BitVec 32 := Scf.iv v65 c1_i32_28 k0_t4
  let c512_i32_49 : BitVec 32 := 512#32
  let v112 : BitVec 32 := Scalar.muli arg13 c512_i32_49
  v112
def k0_off10 (i : grid0.Coords) (k0_t4 : Fin (k0_t4_loop i).trips) : Fin 3 → Nat :=
  let c0_50 : Index := 0#32
  let c0_i32_25 : BitVec 32 := 0#32
  let arg2 : BitVec 32 := BitVec.ofNat 32 (i 2).val
  let v61 : BitVec 32 := Scalar.subi arg2 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg13 : BitVec 32 := Scf.iv v65 c1_i32_28 k0_t4
  let c512_i32_49 : BitVec 32 := 512#32
  let v112 : BitVec 32 := Scalar.muli arg13 c512_i32_49
  let v113 : BitVec 32 := v112
  let v114 : Index := Scalar.indexCast v113
  let c128_51 : Index := 128#32
  ![0, v114.toNat, 128]
def k0_off11 (i : grid0.Coords) (k0_t4 : Fin (k0_t4_loop i).trips) : Fin 3 → Nat :=
  let c0_53 : Index := 0#32
  let c0_i32_25 : BitVec 32 := 0#32
  let arg2 : BitVec 32 := BitVec.ofNat 32 (i 2).val
  let v61 : BitVec 32 := Scalar.subi arg2 c0_i32_25
  let c1_i32_26 : BitVec 32 := 1#32
  let v63 : BitVec 32 := Scalar.divsi v61 c1_i32_26
  let v64 : BitVec 32 := Scalar.muli v63 c1_i32_26
  let v65 : BitVec 32 := Scalar.addi c0_i32_25 v64
  let c1_i32_28 : BitVec 32 := 1#32
  let arg13 : BitVec 32 := Scf.iv v65 c1_i32_28 k0_t4
  let c512_i32_49 : BitVec 32 := 512#32
  let v112 : BitVec 32 := Scalar.muli arg13 c512_i32_49
  let v113 : BitVec 32 := v112
  let v118 : Index := Scalar.indexCast v113
  let c0_54 : Index := 0#32
  ![0, v118.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffIdeal.lean ====
variable {F : FTy → Type} [FloatOps F] [Named F]
def κ : String → Option EReal := fun
  | "c" => some (((11863283 / 134217728) * (Real.log 2)⁻¹ : ℝ) : EReal)
  | "mask" => some ⊥
  | _ => none
-- ==== DiffRefIdeal.lean ====
abbrev S4x4096x12288 : Shape := ⟨3, ![4, 4096, 12288]⟩
abbrev S4x4096x4096 : Shape := ⟨3, ![4, 4096, 4096]⟩
abbrev S128 : Shape := ⟨1, ![128]⟩
abbrev S256 : Shape := ⟨1, ![256]⟩
abbrev S4x4096x2048 : Shape := ⟨3, ![4, 4096, 2048]⟩
abbrev S4x4096x16x128 : Shape := ⟨4, ![4, 4096, 16, 128]⟩
abbrev S4x16x4096x128 : Shape := ⟨4, ![4, 16, 4096, 128]⟩
abbrev S4x4096x8x256 : Shape := ⟨4, ![4, 4096, 8, 256]⟩
abbrev S4x8x4096x256 : Shape := ⟨4, ![4, 8, 4096, 256]⟩
abbrev S_ : Shape := ⟨0, ![]⟩
abbrev S4x16x4096x4096 : Shape := ⟨4, ![4, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x8x2x4096x4096 : Shape := ⟨5, ![4, 8, 2, 4096, 4096]⟩
abbrev S4x8x1x4096x4096 : Shape := ⟨5, ![4, 8, 1, 4096, 4096]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S1x1x1x256 : Shape := ⟨4, ![1, 1, 1, 256]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x12288, .bf16⟩
  | .hbm, ⟨1, _⟩ => ⟨S4x4096x4096, .bf16⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S4x4096x12288, .f32⟩
  | .hbm, ⟨8, _⟩ => ⟨S4x4096x2048, .f32⟩
  | .hbm, ⟨9, _⟩ => ⟨S4x4096x16x128, .f32⟩
  | .hbm, ⟨10, _⟩ => ⟨S4x16x4096x128, .f32⟩
  | .hbm, ⟨11, _⟩ => ⟨S4x4096x2048, .f32⟩
  | .hbm, ⟨12, _⟩ => ⟨S4x4096x16x128, .f32⟩
  | .hbm, ⟨13, _⟩ => ⟨S4x16x4096x128, .f32⟩
  | .hbm, ⟨14, _⟩ => ⟨S4x4096x2048, .f32⟩
  | .hbm, ⟨15, _⟩ => ⟨S4x4096x8x256, .f32⟩
  | .hbm, ⟨16, _⟩ => ⟨S4x8x4096x256, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x16x4096x4096, .f32⟩
  | .hbm, ⟨29, _⟩ => ⟨S_, .f32⟩
  | .hbm, ⟨30, _⟩ => ⟨S4x16x4096x4096, .f32⟩
  | .hbm, ⟨31, _⟩ => ⟨S4x16x4096x4096, .f32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S_, .f32⟩
  | .hbm, ⟨39, _⟩ => ⟨S_, .f32⟩
  | .hbm, ⟨40, _⟩ => ⟨S4x16x4096x4096, .i1⟩
  | .hbm, ⟨41, _⟩ => ⟨S4x16x4096x4096, .f32⟩
  | .hbm, ⟨42, _⟩ => ⟨S4x16x4096x4096, .f32⟩
  | .hbm, ⟨43, _⟩ => ⟨S_, .f32⟩
  | .hbm, ⟨44, _⟩ => ⟨S4x16x4096, .f32⟩
  | .hbm, ⟨45, _⟩ => ⟨S_, .f32⟩
  | .hbm, ⟨46, _⟩ => ⟨S4x16x4096, .f32⟩
  | .hbm, ⟨47, _⟩ => ⟨S4x16x4096, .f32⟩
  | .hbm, ⟨48, _⟩ => ⟨S4x16x4096x1, .f32⟩
  | .hbm, ⟨49, _⟩ => ⟨S4x16x4096x4096, .f32⟩
  | .hbm, ⟨50, _⟩ => ⟨S4x16x4096x4096, .f32⟩
  | .hbm, ⟨51, _⟩ => ⟨S4x16x4096x4096, .f32⟩
  | .hbm, ⟨52, _⟩ => ⟨S_, .f32⟩
  | .hbm, ⟨53, _⟩ => ⟨S4x16x4096, .f32⟩
  | .hbm, ⟨54, _⟩ => ⟨S4x16x4096x1, .f32⟩
  | .hbm, ⟨55, _⟩ => ⟨S4x16x4096x4096, .f32⟩
  | .hbm, ⟨56, _⟩ => ⟨S4x16x4096x4096, .f32⟩
  | .hbm, ⟨57, _⟩ => ⟨S4x8x2x4096x4096, .f32⟩
  | .hbm, ⟨58, _⟩ => ⟨S4x8x1x4096x4096, .f32⟩
  | .hbm, ⟨59, _⟩ => ⟨S4x8x4096x4096, .f32⟩
  | .hbm, ⟨60, _⟩ => ⟨S4x8x1x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x256, .f32⟩
  | .hbm, ⟨66, _⟩ => ⟨S4x8x4096x256, .f32⟩
  | .hbm, ⟨67, _⟩ => ⟨S_, .f32⟩
  | .hbm, ⟨68, _⟩ => ⟨S4x8x4096, .f32⟩
  | .hbm, ⟨69, _⟩ => ⟨S4x8x4096x1, .f32⟩
  | .hbm, ⟨70, _⟩ => ⟨S_, .f32⟩
  | .hbm, ⟨71, _⟩ => ⟨S4x8x4096x1, .f32⟩
  | .hbm, ⟨72, _⟩ => ⟨S4x8x4096x1, .f32⟩
  | .hbm, ⟨73, _⟩ => ⟨S_, .f32⟩
  | .hbm, ⟨74, _⟩ => ⟨S4x8x4096x1, .f32⟩
  | .hbm, ⟨75, _⟩ => ⟨S4x8x4096x1, .f32⟩
  | .hbm, ⟨76, _⟩ => ⟨S4x8x4096x1, .f32⟩
  | .hbm, ⟨77, _⟩ => ⟨S4x8x4096x256, .f32⟩
  | .hbm, ⟨78, _⟩ => ⟨S4x8x4096x256, .f32⟩
  | .hbm, ⟨79, _⟩ => ⟨S1x1x1x256, .f32⟩
  | .hbm, ⟨80, _⟩ => ⟨S4x8x4096x256, .f32⟩
  | .hbm, ⟨81, _⟩ => ⟨S4x8x4096x256, .f32⟩
  | .hbm, ⟨82, _⟩ => ⟨S_, .f32⟩
  | .hbm, ⟨83, _⟩ => ⟨S4x8x4096x256, .f32⟩
  | .hbm, ⟨84, _⟩ => ⟨S4x8x4096x256, .f32⟩
  | .hbm, ⟨85, _⟩ => ⟨S4x4096x2048, .bf16⟩
  | .hbm, ⟨86, _⟩ => ⟨S4x4096x8x256, .f32⟩
  | .hbm, ⟨87, _⟩ => ⟨S4x4096x2048, .f32⟩
  | .hbm, ⟨88, _⟩ => ⟨S4x4096x2048, .bf16⟩
  | .hbm, ⟨89, _⟩ => ⟨S4x4096x4096, .bf16⟩
  | _, _ => ⟨S4x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Up.lean ====
abbrev S16384x4096 : Shape := ⟨2, ![16384, 4096]⟩
abbrev S1x4096x16384 : Shape := ⟨3, ![1, 4096, 16384]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .f32⟩
  | .hbm, ⟨2, _⟩ => ⟨S4096x16384, .f32⟩
  | .hbm, ⟨3, _⟩ => ⟨S4096x16384, .bf16⟩
  | .hbm, ⟨4, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S16384x4096 : Shape := ⟨2, ![16384, 4096]⟩
abbrev S1x4096x16384 : Shape := ⟨3, ![1, 4096, 16384]⟩
abbrev S4096x16384 : Shape := ⟨2, ![4096, 16384]⟩
abbrev S16384x16384 : Shape := ⟨2, ![16384, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .f32⟩
  | .hbm, ⟨2, _⟩ => ⟨S16384x4096, .f32⟩
  | .hbm, ⟨3, _⟩ => ⟨S4096x16384, .f32⟩
  | .hbm, ⟨4, _⟩ => ⟨S16384x16384, .f32⟩
  | .hbm, ⟨5, _⟩ => ⟨S_, .f32⟩
  | .hbm, ⟨6, _⟩ => ⟨S16384x16384, .f32⟩
  | .hbm, ⟨7, _⟩ => ⟨S16384x16384, .f32⟩
  | .hbm, ⟨8, _⟩ => ⟨S16384x16384, .f32⟩
  | .hbm, ⟨9, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S16384x16384 : Shape := ⟨2, ![16384, 16384]⟩
abbrev S1x16384x4096 : Shape := ⟨3, ![1, 16384, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x16384, .bf16⟩
  | .hbm, ⟨1, _⟩ => ⟨S1x16384x4096, .f32⟩
  | .hbm, ⟨2, _⟩ => ⟨S16384x4096, .f32⟩
  | .hbm, ⟨3, _⟩ => ⟨S16384x4096, .f32⟩
  | .hbm, ⟨4, _⟩ => ⟨S16384x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S16384x16384 : Shape := ⟨2, ![16384, 16384]⟩
abbrev S1x16384x4096 : Shape := ⟨3, ![1, 16384, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S1x16384x4096, .f32⟩
  | .hbm, ⟨2, _⟩ => ⟨S16384x4096, .f32⟩
  | .hbm, ⟨3, _⟩ => ⟨S16384x16384, .f32⟩
  | .hbm, ⟨4, _⟩ => ⟨S16384x4096, .f32⟩
  | .hbm, ⟨5, _⟩ => ⟨S16384x4096, .f32⟩
  | .hbm, ⟨6, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S16384x4096 : Shape := ⟨2, ![16384, 4096]⟩
abbrev S1x4096x4096 : Shape := ⟨3, ![1, 4096, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Inp.lean ====
abbrev S16384x4096 : Shape := ⟨2, ![16384, 4096]⟩
abbrev S1x4096x12288 : Shape := ⟨3, ![1, 4096, 12288]⟩
abbrev S4096x12288 : Shape := ⟨2, ![4096, 12288]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S16384x12288 : Shape := ⟨2, ![16384, 12288]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 39
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S4096x12288, .f32⟩
  | .hbm, ⟨3, _⟩ => ⟨S4096x12288, .bf16⟩
  | .hbm, ⟨4, _⟩ => ⟨S4096, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096x1, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S_, .f32⟩
  | .hbm, ⟨27, _⟩ => ⟨S4096x96, .f32⟩
  | .hbm, ⟨28, _⟩ => ⟨S4096x128, .f32⟩
  | .hbm, ⟨29, _⟩ => ⟨S4096x16, .f32⟩
  | .hbm, ⟨30, _⟩ => ⟨S_, .f32⟩
  | .hbm, ⟨31, _⟩ => ⟨S4096x112, .f32⟩
  | .hbm, ⟨32, _⟩ => ⟨S4096x128, .f32⟩
  | .hbm, ⟨33, _⟩ => ⟨S_, .f32⟩
  | .hbm, ⟨34, _⟩ => ⟨S4096x16, .f32⟩
  | .hbm, ⟨35, _⟩ => ⟨S_, .f32⟩
  | .hbm, ⟨36, _⟩ => ⟨S4096x96, .f32⟩
  | .hbm, ⟨37, _⟩ => ⟨S4096x128, .f32⟩
  | .hbm, ⟨38, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_4 : BitVec 32 := 2#32
  let v17 : BitVec 1 := Scalar.cmpi .ne v16 c2_i32_4
  let c5_i32 : BitVec 32 := 5#32
  let v18 : BitVec 1 := Scalar.cmpi .ne v16 c5_i32
  let v19 : BitVec 1 := Scalar.andi v17 v18
  let v24 : BitVec 32 := Scalar.extui v19
  let c0_i32_8 : BitVec 32 := 0#32
  let v25 : BitVec 1 := Scalar.cmpi .ne v24 c0_i32_8
  v25

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_4 : BitVec 32 := 2#32
  let v17 : BitVec 1 := Scalar.cmpi .ne v16 c2_i32_4
  let c5_i32 : BitVec 32 := 5#32
  let v18 : BitVec 1 := Scalar.cmpi .ne v16 c5_i32
  let v19 : BitVec 1 := Scalar.andi v17 v18
  let v_true : BitVec 1 := 1#1
  let v26 : BitVec 1 := Scalar.xori v19 v_true
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InpRefIdeal.lean ====
abbrev S16384x4096 : Shape := ⟨2, ![16384, 4096]⟩
abbrev S1x4096x12288 : Shape := ⟨3, ![1, 4096, 12288]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x12288 : Shape := ⟨2, ![4096, 12288]⟩
abbrev S16384x12288 : Shape := ⟨2, ![16384, 12288]⟩
abbrev S4x4096x12288 : Shape := ⟨3, ![4, 4096, 12288]⟩
abbrev S4x4096x2048 : Shape := ⟨3, ![4, 4096, 2048]⟩
abbrev S4x4096x16x128 : Shape := ⟨4, ![4, 4096, 16, 128]⟩
abbrev S4x16x4096x128 : Shape := ⟨4, ![4, 16, 4096, 128]⟩
abbrev S4x16x4096x32 : Shape := ⟨4, ![4, 16, 4096, 32]⟩
abbrev S4x16x4096x16 : Shape := ⟨4, ![4, 16, 4096, 16]⟩
abbrev S1x1x4096x16 : Shape := ⟨4, ![1, 1, 4096, 16]⟩
abbrev S4x16x4096x96 : Shape := ⟨4, ![4, 16, 4096, 96]⟩

abbrev nBuf : Space → Nat
  | .hbm => 133
  | .vmem => 0
  | .smem => 0
  | _ => 0

abbrev hbmTy0_0 (i : Nat) : BufTy := match i % 128 with
  | 0 => ⟨S16384x4096, .bf16⟩
  | 1 => ⟨S1x4096x12288, .f32⟩
  | 2 => ⟨S4096, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S4096x1, .f32⟩
  | 18 => ⟨S1x16, .f32⟩
  | 19 => ⟨S4096x16, .f32⟩
  | 20 => ⟨S4096x16, .f32⟩
  | 21 => ⟨S4096x16, .f32⟩
  | 22 => ⟨S4096x16, .f32⟩
  | 23 => ⟨S4096x16, .f32⟩
  | 24 => ⟨S16384x4096, .f32⟩
  | 25 => ⟨S4096x12288, .f32⟩
  | 26 => ⟨S16384x12288, .f32⟩
  | 27 => ⟨S4x4096x12288, .f32⟩
  | 28 => ⟨S4x4096x2048, .f32⟩
  | 29 => ⟨S4x4096x2048, .f32⟩
  | 30 => ⟨S4x4096x2048, .f32⟩
  | 31 => ⟨S4x4096x2048, .f32⟩
  | 32 => ⟨S4x4096x2048, .f32⟩
  | 33 => ⟨S4x4096x2048, .f32⟩
  | 34 => ⟨S4x4096x16x128, .f32⟩
  | 35 => ⟨S4x16x4096x128, .f32⟩
  | 36 => ⟨S4x16x4096x32, .f32⟩
  | 37 => ⟨S4x16x4096x16, .f32⟩
  | 38 => ⟨S4x16x4096x16, .f32⟩
  | 39 => ⟨S1x1x4096x16, .f32⟩
  | 40 => ⟨S4x16x4096x16, .f32⟩
  | 41 => ⟨S4x16x4096x16, .f32⟩
  | 42 => ⟨S1x1x4096x16, .f32⟩
  | 43 => ⟨S4x16x4096x16, .f32⟩
  | 44 => ⟨S4x16x4096x16, .f32⟩
  | 45 => ⟨S4x16x4096x16, .f32⟩
  | 46 => ⟨S1x1x4096x16, .f32⟩
  | 47 => ⟨S4x16x4096x16, .f32⟩
  | 48 => ⟨S4x16x4096x16, .f32⟩
  | 49 => ⟨S1x1x4096x16, .f32⟩
  | 50 => ⟨S4x16x4096x16, .f32⟩
  | 51 => ⟨S4x16x4096x16, .f32⟩
  | 52 => ⟨S4x16x4096x16, .f32⟩
  | 53 => ⟨S4x16x4096x32, .f32⟩
  | 54 => ⟨S4x16x4096x96, .f32⟩
  | 55 => ⟨S4x16x4096x128, .f32⟩
  | 56 => ⟨S4x4096x16x128, .f32⟩
  | 57 => ⟨S4x4096x2048, .f32⟩
  | 58 => ⟨S4x4096x16x128, .f32⟩
  | 59 => ⟨S4x16x4096x128, .f32⟩
  | 60 => ⟨S4x16x4096x32, .f32⟩
  | 61 => ⟨S4x16x4096x16, .f32⟩
  | 62 => ⟨S4x16x4096x16, .f32⟩
  | 63 => ⟨S1x1x4096x16, .f32⟩
  | 64 => ⟨S4x16x4096x16, .f32⟩
  | 65 => ⟨S4x16x4096x16, .f32⟩
  | 66 => ⟨S1x1x4096x16, .f32⟩
  | 67 => ⟨S4x16x4096x16, .f32⟩
  | 68 => ⟨S4x16x4096x16, .f32⟩
  | 69 => ⟨S4x16x4096x16, .f32⟩
  | 70 => ⟨S1x1x4096x16, .f32⟩
  | 71 => ⟨S4x16x4096x16, .f32⟩
  | 72 => ⟨S4x16x4096x16, .f32⟩
  | 73 => ⟨S1x1x4096x16, .f32⟩
  | 74 => ⟨S4x16x4096x16, .f32⟩
  | 75 => ⟨S4x16x4096x16, .f32⟩
  | 76 => ⟨S4x16x4096x16, .f32⟩
  | 77 => ⟨S4x16x4096x32, .f32⟩
  | 78 => ⟨S4x16x4096x96, .f32⟩
  | 79 => ⟨S4x16x4096x128, .f32⟩
  | 80 => ⟨S4x4096x16x128, .f32⟩
  | 81 => ⟨S4x4096x2048, .f32⟩
  | 82 => ⟨S4x4096x16x128, .f32⟩
  | 83 => ⟨S4x16x4096x128, .f32⟩
  | 84 => ⟨S4x16x4096x32, .f32⟩
  | 85 => ⟨S4x16x4096x16, .f32⟩
  | 86 => ⟨S4x16x4096x16, .f32⟩
  | 87 => ⟨S1x1x4096x16, .f32⟩
  | 88 => ⟨S4x16x4096x16, .f32⟩
  | 89 => ⟨S4x16x4096x16, .f32⟩
  | 90 => ⟨S1x1x4096x16, .f32⟩
  | 91 => ⟨S4x16x4096x16, .f32⟩
  | 92 => ⟨S4x16x4096x16, .f32⟩
  | 93 => ⟨S4x16x4096x16, .f32⟩
  | 94 => ⟨S1x1x4096x16, .f32⟩
  | 95 => ⟨S4x16x4096x16, .f32⟩
  | 96 => ⟨S4x16x4096x16, .f32⟩
  | 97 => ⟨S1x1x4096x16, .f32⟩
  | 98 => ⟨S4x16x4096x16, .f32⟩
  | 99 => ⟨S4x16x4096x16, .f32⟩
  | 100 => ⟨S4x16x4096x16, .f32⟩
  | 101 => ⟨S4x16x4096x32, .f32⟩
  | 102 => ⟨S4x16x4096x96, .f32⟩
  | 103 => ⟨S4x16x4096x128, .f32⟩
  | 104 => ⟨S4x4096x16x128, .f32⟩
  | 105 => ⟨S4x4096x2048, .f32⟩
  | 106 => ⟨S4x4096x16x128, .f32⟩
  | 107 => ⟨S4x16x4096x128, .f32⟩
  | 108 => ⟨S4x16x4096x32, .f32⟩
  | 109 => ⟨S4x16x4096x16, .f32⟩
  | 110 => ⟨S4x16x4096x16, .f32⟩
  | 111 => ⟨S1x1x4096x16, .f32⟩
  | 112 => ⟨S4x16x4096x16, .f32⟩
  | 113 => ⟨S4x16x4096x16, .f32⟩
  | 114 => ⟨S1x1x4096x16, .f32⟩
  | 115 => ⟨S4x16x4096x16, .f32⟩
  | 116 => ⟨S4x16x4096x16, .f32⟩
  | 117 => ⟨S4x16x4096x16, .f32⟩
  | 118 => ⟨S1x1x4096x16, .f32⟩
  | 119 => ⟨S4x16x4096x16, .f32⟩
  | 120 => ⟨S4x16x4096x16, .f32⟩
  | 121 => ⟨S1x1x4096x16, .f32⟩
  | 122 => ⟨S4x16x4096x16, .f32⟩
  | 123 => ⟨S4x16x4096x16, .f32⟩
  | 124 => ⟨S4x16x4096x16, .f32⟩
  | 125 => ⟨S4x16x4096x32, .f32⟩
  | 126 => ⟨S4x16x4096x96, .f32⟩
  | 127 => ⟨S4x16x4096x128, .f32⟩
  | _ => ⟨S16384x4096, .bf16⟩

abbrev hbmTy0_1 (i : Nat) : BufTy := match i % 128 with
  | 0 => ⟨S4x4096x16x128, .f32⟩
  | 1 => ⟨S4x4096x2048, .f32⟩
  | 2 => ⟨S4x4096x12288, .f32⟩
  | 3 => ⟨S16384x12288, .f32⟩
  | 4 => ⟨S16384x12288, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩

abbrev nD : Nat := 1
abbrev τ : Topo := Topo.v7x

variable {F : FTy → Type} [FloatOps F]
-- ==== Fin.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MixNorm.lean ====
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixNormRefIdeal.lean ====
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemNorm.lean ====
abbrev S1024x4096 : Shape := ⟨2, ![1024, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemNormRefIdeal.lean ====
abbrev S1024x4096 : Shape := ⟨2, ![1024, 4096]⟩
abbrev S1x4096 : Shape := ⟨2, ![1, 4096]⟩
abbrev S4096 : Shape := ⟨1, ![4096]⟩
abbrev S_ : Shape := ⟨0, ![]⟩
abbrev S1024 : Shape := ⟨1, ![1024]⟩
abbrev S1024x1 : Shape := ⟨2, ![1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1x4096, .f32⟩
  | .hbm, ⟨2, _⟩ => ⟨S4096, .f32⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1x4096, .f32⟩
  | .hbm, ⟨17, _⟩ => ⟨S1024x4096, .f32⟩
  | .hbm, ⟨18, _⟩ => ⟨S1024x4096, .f32⟩
  | .hbm, ⟨19, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemKv.lean ====
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvRefIdeal.lean ====
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x4096x1024, .f32⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Cross.lean ====
abbrev S16384x4096 : Shape := ⟨2, ![16384, 4096]⟩
abbrev S1024x1024 : Shape := ⟨2, ![1024, 1024]⟩
abbrev S1x4096 : Shape := ⟨2, ![1, 4096]⟩
abbrev S1x4096x512 : Shape := ⟨3, ![1, 4096, 512]⟩
abbrev S1x512x4096 : Shape := ⟨3, ![1, 512, 4096]⟩
abbrev S4096 : Shape := ⟨1, ![4096]⟩
abbrev S4096x512 : Shape := ⟨2, ![4096, 512]⟩
abbrev S512x4096 : Shape := ⟨2, ![512, 4096]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩

abbrev nBuf : Space → Nat
  | .hbm => 16
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S1024x1024, .bf16⟩
  | .hbm, ⟨2, _⟩ => ⟨S1x4096, .f32⟩
  | .hbm, ⟨3, _⟩ => ⟨S1x4096x512, .f32⟩
  | .hbm, ⟨4, _⟩ => ⟨S1x512x4096, .f32⟩
  | .hbm, ⟨5, _⟩ => ⟨S1x4096, .f32⟩
  | .hbm, ⟨6, _⟩ => ⟨S4096, .f32⟩
  | .hbm, ⟨7, _⟩ => ⟨S4096x512, .f32⟩
  | .hbm, ⟨8, _⟩ => ⟨S4096x512, .bf16⟩
  | .hbm, ⟨9, _⟩ => ⟨S512x4096, .f32⟩
  | .hbm, ⟨10, _⟩ => ⟨S512x4096, .bf16⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S16384x4096, .f32⟩
  | .hbm, ⟨15, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x512, .bf16⟩
  | .local _ .vmem, ⟨4, _⟩ => ⟨S256x1024, .bf16⟩
  | .local _ .vmem, ⟨5, _⟩ => ⟨S256x1024, .bf16⟩
  | .local _ .vmem, ⟨6, _⟩ => ⟨S512x4096, .bf16⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CrossIdeal.lean ====
variable {F : FTy → Type} [FloatOps F] [Named F]
def κ : String → Option EReal := fun
  | "c" => some (((11863283 / 134217728) * (Real.log 2)⁻¹ : ℝ) : EReal)
  | _ => none
-- ==== CrossRefIdeal.lean ====
abbrev S16384x4096 : Shape := ⟨2, ![16384, 4096]⟩
abbrev S1024x1024 : Shape := ⟨2, ![1024, 1024]⟩
abbrev S1x4096 : Shape := ⟨2, ![1, 4096]⟩
abbrev S1x4096x512 : Shape := ⟨3, ![1, 4096, 512]⟩
abbrev S1x512x4096 : Shape := ⟨3, ![1, 512, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S4096x512 : Shape := ⟨2, ![4096, 512]⟩
abbrev S16384x512 : Shape := ⟨2, ![16384, 512]⟩
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x256x128 : Shape := ⟨4, ![4, 4, 256, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S512x4096 : Shape := ⟨2, ![512, 4096]⟩

abbrev nBuf : Space → Nat
  | .hbm => 79
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1024x1024, .bf16⟩
  | .hbm, ⟨2, _⟩ => ⟨S1x4096, .f32⟩
  | .hbm, ⟨3, _⟩ => ⟨S1x4096x512, .f32⟩
  | .hbm, ⟨4, _⟩ => ⟨S1x512x4096, .f32⟩
  | .hbm, ⟨5, _⟩ => ⟨S1x4096, .f32⟩
  | .hbm, ⟨6, _⟩ => ⟨S4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S4096x512, .f32⟩
  | .hbm, ⟨24, _⟩ => ⟨S16384x512, .f32⟩
  | .hbm, ⟨25, _⟩ => ⟨S4x4096x512, .f32⟩
  | .hbm, ⟨26, _⟩ => ⟨S4x4096x4x128, .f32⟩
  | .hbm, ⟨27, _⟩ => ⟨S4x4x4096x128, .f32⟩
  | .hbm, ⟨28, _⟩ => ⟨S1024x1024, .f32⟩
  | .hbm, ⟨29, _⟩ => ⟨S4x256x2x4x128, .f32⟩
  | .hbm, ⟨30, _⟩ => ⟨S4x256x1x4x128, .f32⟩
  | .hbm, ⟨31, _⟩ => ⟨S4x256x4x128, .f32⟩
  | .hbm, ⟨32, _⟩ => ⟨S4x4x256x128, .f32⟩
  | .hbm, ⟨33, _⟩ => ⟨S4x256x1x4x128, .f32⟩
  | .hbm, ⟨34, _⟩ => ⟨S4x256x4x128, .f32⟩
  | .hbm, ⟨35, _⟩ => ⟨S4x4x256x128, .f32⟩
  | .hbm, ⟨36, _⟩ => ⟨S4x4x4096x256, .f32⟩
  | .hbm, ⟨37, _⟩ => ⟨S_, .f32⟩
  | .hbm, ⟨38, _⟩ => ⟨S4x4x4096x256, .f32⟩
  | .hbm, ⟨39, _⟩ => ⟨S4x4x4096x256, .f32⟩
  | .hbm, ⟨40, _⟩ => ⟨S_, .f32⟩
  | .hbm, ⟨41, _⟩ => ⟨S4x4x4096, .f32⟩
  | .hbm, ⟨42, _⟩ => ⟨S_, .f32⟩
  | .hbm, ⟨43, _⟩ => ⟨S4x4x4096, .f32⟩
  | .hbm, ⟨44, _⟩ => ⟨S4x4x4096, .f32⟩
  | .hbm, ⟨45, _⟩ => ⟨S4x4x4096x1, .f32⟩
  | .hbm, ⟨46, _⟩ => ⟨S4x4x4096x256, .f32⟩
  | .hbm, ⟨47, _⟩ => ⟨S4x4x4096x256, .f32⟩
  | .hbm, ⟨48, _⟩ => ⟨S4x4x4096x256, .f32⟩
  | .hbm, ⟨49, _⟩ => ⟨S_, .f32⟩
  | .hbm, ⟨50, _⟩ => ⟨S4x4x4096, .f32⟩
  | .hbm, ⟨51, _⟩ => ⟨S4x4x4096x1, .f32⟩
  | .hbm, ⟨52, _⟩ => ⟨S4x4x4096x256, .f32⟩
  | .hbm, ⟨53, _⟩ => ⟨S4x4x4096x256, .f32⟩
  | .hbm, ⟨54, _⟩ => ⟨S4x4x4096x128, .f32⟩
  | .hbm, ⟨55, _⟩ => ⟨S4x4096x4x128, .f32⟩
  | .hbm, ⟨56, _⟩ => ⟨S4x4096x512, .f32⟩
  | .hbm, ⟨57, _⟩ => ⟨S16384x512, .f32⟩
  | .hbm, ⟨58, _⟩ => ⟨S512x4096, .f32⟩
  | .hbm, ⟨59, _⟩ => ⟨S16384x4096, .f32⟩
  | .hbm, ⟨60, _⟩ => ⟨S16384x4096, .f32⟩
  | .hbm, ⟨61, _⟩ => ⟨S4096, .f32⟩
  | .hbm, ⟨62, _⟩ => ⟨S16384x4096, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x4096, .f32⟩
  | .hbm, ⟨74, _⟩ => ⟨S16384x4096, .f32⟩
  | .hbm, ⟨75, _⟩ => ⟨S1x4096, .f32⟩
  | .hbm, ⟨76, _⟩ => ⟨S16384x4096, .f32⟩
  | .hbm, ⟨77, _⟩ => ⟨S16384x4096, .f32⟩
  | .hbm, ⟨78, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Proof.DiffMath.lean ====
module

public import Idealize.ShloMosaic.PureOps.Ideal
public import Mathlib.Tactic.FieldSimp
public import Mathlib.Tactic.Ring
public import Mathlib.Tactic.NormNum
public import Mathlib.Analysis.SpecialFunctions.Pow.Real
public import Mathlib.Algebra.BigOperators.Fin
public import Mathlib.Algebra.Order.BigOperators.Group.Finset

@[expose] public section

noncomputable section

/-! The arithmetic of the running softmax, over the reals inside the extended reals.

A row of scores is `s`. The kernel keeps a shift `M`, the sum `l` of `exp ((s - M) κ)` over the keys seen so far, and the
same sum weighted by the values, `acc`. Whatever real number the shift is, `l = exp (-(M κ)) E` and
`acc = exp (-(M κ)) N`, where `E` and `N` are the sums without a shift, so the quotient is `N / E`. -/

namespace Cert.Hand.Diff

open Idealize Idealize.ShloMosaic

/-- The scale of the scores. -/
def kap : ℝ := 11863283 / 134217728

theorem kap_pos : 0 < kap := by unfold kap; norm_num

/-- The scale as the kernel has it: for the powers of two. -/
def cc : EReal := ((11863283 / 134217728 * (Real.log 2)⁻¹ : ℝ) : EReal)

/-- A power of two with the kernel's scale is an exponential with the scale. -/
theorem exp2_cc (x y : ℝ) : Ideal.exp2 (((x : EReal) - (y : EReal)) * cc) = ((Real.exp (x * kap - y * kap) : ℝ) : EReal) := by
  have h2 : Real.log 2 ≠ 0 := (Real.log_pos one_lt_two).ne'
  unfold cc
  rw [← EReal.coe_sub, ← EReal.coe_mul, Ideal.exp2_coe]
  congr 1
  change (2 : ℝ) ^ (_ : ℝ) = _
  rw [Real.rpow_def_of_pos two_pos]
  congr 1
  unfold kap
  field_simp

/-- A masked score has weight zero. -/
theorem exp2_cc_bot (y : ℝ) : Ideal.exp2 (((⊥ : EReal) - (y : EReal)) * cc) = ((0 : ℝ) : EReal) := by
  have hc : (0 : ℝ) < 11863283 / 134217728 * (Real.log 2)⁻¹ := mul_pos (by norm_num) (inv_pos.2 (Real.log_pos one_lt_two))
  unfold cc
  rw [EReal.bot_sub, EReal.bot_mul_coe_of_pos hc, Ideal.exp2_bot]
  rfl

/-- A finite sum of reals is real. -/
theorem sum_coe {n : ℕ} (f : Fin n → ℝ) : (∑ k : Fin n, ((f k : ℝ) : EReal)) = ((∑ k : Fin n, f k : ℝ) : EReal) := by
  induction n with
  | zero => simp
  | succ n ih => rw [Fin.sum_univ_succ, Fin.sum_univ_succ, ih, EReal.coe_add]

/-- The greatest of finitely many values that are real or `⊥`, one of them real, is real. -/
theorem fold_max_real {n : ℕ} (f : Fin n → EReal) (ht : ∀ k, f k ≠ ⊤) (k₀ : Fin n) (h0 : f k₀ ≠ ⊥) :
    ∃ M : ℝ, Finset.univ.fold max (⊥ : EReal) f = (M : EReal) := by
  have h1 : Finset.univ.fold max (⊥ : EReal) f < ⊤ :=
    Finset.fold_max_lt _ |>.2 ⟨bot_lt_top, fun k _ => lt_top_iff_ne_top.2 (ht k)⟩
  have h2 : ⊥ < Finset.univ.fold max (⊥ : EReal) f :=
    Finset.lt_fold_max _ |>.2 (.inr ⟨k₀, Finset.mem_univ _, bot_lt_iff_ne_bot.2 h0⟩)
  exact ⟨_, (EReal.coe_toReal h1.ne h2.ne').symm⟩

/-- The greatest of two reals is real. -/
theorem max_real (a b : ℝ) : max (a : EReal) (b : EReal) = ((max a b : ℝ) : EReal) :=
  (EReal.coe_strictMono.monotone.map_max).symm

/-- What the running state of one row holds: some real shift, and the two sums with that shift. -/
def RowInv (mm l : EReal) (acc : Fin 256 → EReal) (E : ℝ) (N : Fin 256 → ℝ) : Prop :=
  ∃ M : ℝ, mm = (M : EReal) ∧ l = ((Real.exp (-(M * kap)) * E : ℝ) : EReal)
    ∧ ∀ e, acc e = ((Real.exp (-(M * kap)) * N e : ℝ) : EReal)

/-- The sum with a shift is the shifted sum. -/
theorem sum_shift {n : ℕ} (M : ℝ) (s w : Fin n → ℝ) :
    ∑ q, Real.exp (s q * kap - M * kap) * w q = Real.exp (-(M * kap)) * ∑ q, Real.exp (s q * kap) * w q := by
  rw [Finset.mul_sum]
  refine Finset.sum_congr rfl fun q _ => ?_
  rw [sub_eq_add_neg, Real.exp_add]
  ring

/-- A sum after a change of shift, with a block's sum added. -/
theorem rescale {n : ℕ} (M M' X : ℝ) (s w : Fin n → ℝ) :
    (((Real.exp (M * kap - M' * kap) : ℝ) : EReal) * ((Real.exp (-(M * kap)) * X : ℝ) : EReal))
        + ∑ q, (((Real.exp (s q * kap - M' * kap) * w q : ℝ) : EReal))
      = ((Real.exp (-(M' * kap)) * (X + ∑ q, Real.exp (s q * kap) * w q) : ℝ) : EReal) := by
  rw [sum_coe, ← EReal.coe_mul, ← EReal.coe_add, sum_shift]
  congr 1
  have : Real.exp (M * kap - M' * kap) * Real.exp (-(M * kap)) = Real.exp (-(M' * kap)) := by
    rw [← Real.exp_add]; congr 1; ring
  rw [← mul_assoc, this, mul_add]

/-- At the end the quotient has no shift. -/
theorem RowInv.quot {mm l : EReal} {acc : Fin 256 → EReal} {E : ℝ} {N : Fin 256 → ℝ} (h : RowInv mm l acc E N) (hE : E ≠ 0)
    (e : Fin 256) : Ideal.div (acc e) l = ((N e / E : ℝ) : EReal) := by
  obtain ⟨M, -, hl, ha⟩ := h
  have hx := (Real.exp_pos (-(M * kap))).ne'
  rw [hl, ha e, Ideal.div_coe (mul_ne_zero hx hE), ← EReal.coe_mul]
  congr 1
  field_simp

/-- The keys up to a row are the ones of the row's own block up to it, and the blocks before. -/
theorem causal_sum (f : ℕ → ℝ) (a r : ℕ) (hr : r < 512) (ha : a < 8) :
    (∑ k : Fin 4096, if k.val ≤ 512 * a + r then f k.val else 0)
      = (∑ q : Fin 512, if q.val ≤ r then f (512 * a + q.val) else 0)
        + ∑ k ∈ Finset.range a, ∑ q : Fin 512, f (512 * k + q.val) := by
  have hb : ∀ b : ℕ, ∑ k ∈ Finset.range b, ∑ q : Fin 512, f (512 * k + q.val) = ∑ i ∈ Finset.range (512 * b), f i := by
    intro b
    induction b with
    | zero => simp
    | succ b ih =>
      rw [Finset.sum_range_succ, ih, Nat.mul_succ, Finset.sum_range_add, ← Fin.sum_univ_eq_sum_range (fun i => f (512 * b + i))]
  have hc : ∀ (n t : ℕ) (g : ℕ → ℝ), t < n → (∑ k : Fin n, if k.val ≤ t then g k.val else 0) = ∑ i ∈ Finset.range (t + 1), g i := by
    intro n t g ht
    rw [Fin.sum_univ_eq_sum_range (fun i => if i ≤ t then g i else 0), ← Finset.sum_filter]
    congr 1
    ext i
    simp only [Finset.mem_filter, Finset.mem_range]
    omega
  rw [hb, hc 4096 (512 * a + r) f (by omega), hc 512 r (fun i => f (512 * a + i)) hr, Nat.add_assoc, Finset.sum_range_add, add_comm]

/-- The sum of the weights of the keys up to a row is positive. -/
theorem causal_pos (f : ℕ → ℝ) (hf : ∀ i, 0 < f i) (t : ℕ) : 0 < ∑ k : Fin 4096, if k.val ≤ t then f k.val else 0 := by
  refine Finset.sum_pos' (fun k _ => ?_) ⟨⟨0, by omega⟩, Finset.mem_univ _, ?_⟩
  · split
    · exact (hf _).le
    · exact le_rfl
  · rw [if_pos (Nat.zero_le _)]; exact hf _

/-- One row of the reference's softmax: masked scores, less their greatest, exponentials divided by their sum. -/
theorem softmax_row {n : ℕ} (z : Fin n → EReal) (s : Fin n → ℝ) (p : Fin n → Prop) [DecidablePred p]
    (hz : ∀ k, z k = if p k then ((s k : ℝ) : EReal) else ⊥) (k₀ : Fin n) (h0 : p k₀) (k : Fin n) :
    Ideal.div (Ideal.exp (z k - Finset.univ.fold max (⊥ : EReal) z))
        (∑ j, Ideal.exp (z j - Finset.univ.fold max (⊥ : EReal) z))
      = (((if p k then Real.exp (s k) else 0) / ∑ j, (if p j then Real.exp (s j) else 0) : ℝ) : EReal) := by
  obtain ⟨M, hM⟩ := fold_max_real z (fun k => by rw [hz]; split <;> simp) k₀ (by rw [hz, if_pos h0]; simp)
  have he : ∀ j, Ideal.exp (z j - (M : EReal)) = ((Real.exp (-M) * (if p j then Real.exp (s j) else 0) : ℝ) : EReal) := by
    intro j
    rw [hz]
    split
    · rw [← EReal.coe_sub, Ideal.exp_coe, ← Real.exp_add]; congr 2; ring
    · rw [EReal.bot_sub, Ideal.exp_bot, mul_zero]; rfl
  have hpos : 0 < ∑ j, (if p j then Real.exp (s j) else 0) := by
    refine Finset.sum_pos' (fun j _ => ?_) ⟨k₀, Finset.mem_univ _, ?_⟩
    · split
      · exact (Real.exp_pos _).le
      · exact le_rfl
    · rw [if_pos h0]; exact Real.exp_pos _
  rw [hM]
  simp only [he]
  have hx := (Real.exp_pos (-M)).ne'
  rw [sum_coe, ← Finset.mul_sum, Ideal.div_coe (mul_ne_zero hx hpos.ne'), ← EReal.coe_mul]
  congr 1
  field_simp

end Cert.Hand.Diff

end
-- ==== Proof.DiffStep.lean ====
module

public import proofs.«01_k».proof.Proof.Gen.DiffIdeal.Skeleton
public import proofs.«01_k».proof.Proof.DiffMath
public import Idealize.ShloMosaic.Lib.Pipeline.ValueKit
public import Idealize.ShloMosaic.Lib.Pointwise

@[expose] public section

set_option maxRecDepth 16384

noncomputable section

/-! What one block of keys does to a row of the running softmax: the kernel's vector operations, read at an index. -/

namespace Cert.Hand.Diff

open Cert.DiffIdeal Cert.DiffIdeal.Gen
open Idealize.ShloMosaic

/-- The scale's constant. -/
theorem named_c : (Named.named (F := Ideal) Cert.DiffIdeal.κ "c" 0x3E0293EE#32 : Ideal .f32) = cc :=
  IdealRules.named_const.ideal_named_scalar _ _ _ _ rfl

/-- The mask's constant. -/
theorem named_mask : (Named.named (F := Ideal) Cert.DiffIdeal.κ "mask" 0xF149F2CA#32 : Ideal .f32) = (⊥ : EReal) :=
  IdealRules.named_const.ideal_named_scalar _ _ _ _ rfl

/-- The bits of minus infinity. -/
theorem ofBits_ninf : (Ideal.ofBits FTy.f32 0xFF800000#32 : EReal) = ⊥ := by
  simp [Ideal.ofBits, Ideal.ieee]

/-- Comparing two small indices as words compares the indices. -/
theorem select_le {n : ℕ} (hn : n ≤ 4096) (a b : Fin n) (x y : EReal) :
    Scalar.select (IntOp.cmpi CmpIPredicate.sle (BitVec.ofNat 32 a.val) (BitVec.ofNat 32 b.val)) x y
      = if a.val ≤ b.val then x else y := by
  have h : ((BitVec.ofNat 32 a.val).sle (BitVec.ofNat 32 b.val)) = decide (a.val ≤ b.val) := by
    have ha := a.isLt
    have hb := b.isLt
    rw [BitVec.sle_eq_decide]
    congr 1
    rw [BitVec.toInt_eq_toNat_of_lt (by rw [BitVec.toNat_ofNat]; omega), BitVec.toInt_eq_toNat_of_lt (by rw [BitVec.toNat_ofNat]; omega),
      BitVec.toNat_ofNat, BitVec.toNat_ofNat]
    refine propext ?_
    omega
  unfold Scalar.select IntOp.cmpi
  dsimp only
  rw [h]
  by_cases hab : a.val ≤ b.val <;> simp [hab]

/-- A block's scores. -/
theorem pay8_apply (q k : Vec Ideal S1x512x128 .bf16) (j : S512x512.Idx) :
    k0_pay8 q k j = ∑ d : Fin 128, q (ix3 0 (j 0) d) * k (ix3 0 (j 1) d) := by
  pointwise [k0_pay8, k0_pay2]

/-- The scores of the row's own block: those of later keys are masked. -/
theorem pay3_apply (q k : Vec Ideal S1x512x128 .bf16) (j : S512x512.Idx) :
    k0_pay3 q k j = if (j 1).val ≤ (j 0).val then k0_pay8 q k j else ⊥ := by
  rw [pay8_apply]
  pointwise [k0_pay3, k0_pay2]
  rw [named_mask]
  exact select_le (n := 512) (by norm_num) (j 1) (j 0) _ _

/-- The greatest score of a row in its own block. -/
theorem pay4_apply (q k : Vec Ideal S1x512x128 .bf16) (j : S512x1.Idx) :
    k0_pay4 q k j = Finset.univ.fold max (⊥ : EReal) fun k' => k0_pay3 q k (ix2 (j 0) k') := by
  unfold k0_pay4
  generalize k0_pay3 q k = s
  pointwise []
  rw [ofBits_ninf]

/-- The weights of the row's own block, before the division. -/
theorem pay5_apply (q k : Vec Ideal S1x512x128 .bf16) (j : S512x512.Idx) :
    k0_pay5 q k j = Ideal.exp2 ((k0_pay3 q k j - k0_pay4 q k (ix2 (j 0) 0)) * cc) := by
  unfold k0_pay5
  generalize k0_pay3 q k = s
  generalize k0_pay4 q k = t
  pointwise []
  rw [named_c]
  rfl

/-- The sum of those weights. -/
theorem pay6_apply (q k : Vec Ideal S1x512x128 .bf16) (j : S512x1.Idx) :
    k0_pay6 q k j = ∑ k' : Fin 512, k0_pay5 q k (ix2 (j 0) k') := by
  unfold k0_pay6
  generalize k0_pay5 q k = s
  pointwise []

/-- The values of the own block, weighted. -/
theorem pay7_apply (q k : Vec Ideal S1x512x128 .bf16) (v : Vec Ideal S1x512x256 .bf16) (j : S512x256.Idx) :
    k0_pay7 q k v j = ∑ k' : Fin 512, k0_pay5 q k (ix2 (j 0) k') * v (ix3 0 k' (j 1)) := by
  unfold k0_pay7
  generalize k0_pay5 q k = s
  pointwise []

/-- The greatest score of a row so far. -/
theorem pay9_apply (q : Vec Ideal S1x512x128 .bf16) (m0 : FVec Ideal S512x1 .f32) (k : Vec Ideal S1x512x128 .bf16) (j : S512x1.Idx) :
    k0_pay9 q m0 k j = max (m0 j : EReal) (Finset.univ.fold max (⊥ : EReal) fun k' => k0_pay8 q k (ix2 (j 0) k')) := by
  unfold k0_pay9
  generalize k0_pay8 q k = s
  pointwise []
  rw [ofBits_ninf]

/-- The factor by which the older sums shrink when the greatest score grows. -/
theorem pay10_apply (q : Vec Ideal S1x512x128 .bf16) (m0 : FVec Ideal S512x1 .f32) (k : Vec Ideal S1x512x128 .bf16) (j : S512x1.Idx) :
    k0_pay10 q m0 k j = Ideal.exp2 ((m0 j - k0_pay9 q m0 k j) * cc) := by
  unfold k0_pay10
  generalize k0_pay9 q m0 k = s
  pointwise []
  rw [named_c]
  rfl

/-- The weights of an earlier block. -/
theorem pay11_apply (q : Vec Ideal S1x512x128 .bf16) (m0 : FVec Ideal S512x1 .f32) (k : Vec Ideal S1x512x128 .bf16) (j : S512x512.Idx) :
    k0_pay11 q m0 k j = Ideal.exp2 ((k0_pay8 q k j - k0_pay9 q m0 k (ix2 (j 0) 0)) * cc) := by
  unfold k0_pay11
  generalize k0_pay9 q m0 k = s
  generalize k0_pay8 q k = t
  pointwise []
  rw [named_c]
  rfl

/-- The sum of the weights so far. -/
theorem pay12_apply (q : Vec Ideal S1x512x128 .bf16) (m0 l0 : FVec Ideal S512x1 .f32) (k : Vec Ideal S1x512x128 .bf16) (j : S512x1.Idx) :
    k0_pay12 q m0 l0 k j = k0_pay10 q m0 k j * l0 j + ∑ k' : Fin 512, k0_pay11 q m0 k (ix2 (j 0) k') := by
  unfold k0_pay12
  generalize k0_pay10 q m0 k = s
  generalize k0_pay11 q m0 k = t
  pointwise []

/-- The weighted values so far. -/
theorem pay13_apply (q : Vec Ideal S1x512x128 .bf16) (m0 : FVec Ideal S512x1 .f32) (a0 : FVec Ideal S512x256 .f32)
    (k : Vec Ideal S1x512x128 .bf16) (v : Vec Ideal S1x512x256 .bf16) (j : S512x256.Idx) :
    k0_pay13 q m0 a0 k v j = k0_pay10 q m0 k (ix2 (j 0) 0) * a0 j
      + ∑ k' : Fin 512, k0_pay11 q m0 k (ix2 (j 0) k') * v (ix3 0 k' (j 1)) := by
  unfold k0_pay13
  generalize k0_pay10 q m0 k = s
  generalize k0_pay11 q m0 k = t
  pointwise []

/-- The weighted values over the sum of the weights. -/
theorem pay20_apply (l0 : FVec Ideal S512x1 .f32) (a0 : FVec Ideal S512x256 .f32) (j : S512x256.Idx) :
    k0_pay20 l0 a0 j = Ideal.div (a0 j) (l0 (ix2 (j 0) 0)) := by
  pointwise [k0_pay20]

/-- The row's own block sets the state. -/
theorem init_row (q k : Vec Ideal S1x512x128 .bf16) (v : Vec Ideal S1x512x256 .bf16) (r : Fin 512) (s : Fin 512 → ℝ)
    (w : Fin 512 → Fin 256 → ℝ) (hs : ∀ i, k0_pay8 q k (ix2 r i) = ((s i : ℝ) : EReal))
    (hv : ∀ i e, v (ix3 0 i e) = ((w i e : ℝ) : EReal)) :
    RowInv (k0_pay4 q k (ix2 r 0)) (k0_pay6 q k (ix2 r 0)) (fun e => k0_pay7 q k v (ix2 r e))
      (∑ i : Fin 512, if i.val ≤ r.val then Real.exp (s i * kap) else 0)
      (fun e => ∑ i : Fin 512, if i.val ≤ r.val then Real.exp (s i * kap) * w i e else 0) := by
  have h3 : ∀ i : Fin 512, k0_pay3 q k (ix2 r i) = if i.val ≤ r.val then ((s i : ℝ) : EReal) else ⊥ := by
    intro i
    refine (pay3_apply q k (ix2 r i)).trans ?_
    rw [hs]
    rfl
  obtain ⟨M, hM⟩ := fold_max_real (fun i => (k0_pay3 q k (ix2 r i) : EReal))
    (fun i => by show k0_pay3 q k (ix2 r i) ≠ (⊤ : EReal); rw [h3]; split <;> simp) r (by
      show k0_pay3 q k (ix2 r r) ≠ (⊥ : EReal); rw [h3, if_pos le_rfl]; simp)
  have h4 : k0_pay4 q k (ix2 r 0) = (M : EReal) := (pay4_apply q k (ix2 r 0)).trans hM
  have h5 : ∀ i : Fin 512, k0_pay5 q k (ix2 r i)
      = ((Real.exp (s i * kap - M * kap) * (if i.val ≤ r.val then 1 else 0) : ℝ) : EReal) := by
    intro i
    refine (pay5_apply q k (ix2 r i)).trans ?_
    rw [h3, show k0_pay4 q k (ix2 ((ix2 r i : S512x512.Idx) 0) 0) = (M : EReal) from h4]
    split
    · rw [exp2_cc, mul_one]
    · rw [exp2_cc_bot, mul_zero]
  refine ⟨M, h4, ?_, fun e => ?_⟩
  · refine (pay6_apply q k (ix2 r 0)).trans ?_
    refine (Fin.sum_fin_congr (fun i => h5 i)).trans ?_
    rw [sum_coe, sum_shift]
    simp only [mul_ite, mul_one, mul_zero]
  · refine (pay7_apply q k v (ix2 r e)).trans ?_
    refine (Fin.sum_fin_congr (G := fun i => ((Real.exp (s i * kap - M * kap) * ((if i.val ≤ r.val then 1 else 0) * w i e) : ℝ) : EReal))
      (fun i => ?_)).trans ?_
    · refine (congrArg₂ (fun a b : EReal => a * b) (h5 i) (hv i e)).trans ?_
      rw [← EReal.coe_mul, mul_assoc]
    · rw [sum_coe, sum_shift]
      simp only [ite_mul, one_mul, zero_mul, mul_ite, mul_zero]

/-- An earlier block adds its keys to the state. -/
theorem step_row (q k : Vec Ideal S1x512x128 .bf16) (v : Vec Ideal S1x512x256 .bf16) (r : Fin 512) (s : Fin 512 → ℝ)
    (w : Fin 512 → Fin 256 → ℝ) (hs : ∀ i, k0_pay8 q k (ix2 r i) = ((s i : ℝ) : EReal))
    (hv : ∀ i e, v (ix3 0 i e) = ((w i e : ℝ) : EReal))
    (m0 l0 : FVec Ideal S512x1 .f32) (a0 : FVec Ideal S512x256 .f32) (E : ℝ) (N : Fin 256 → ℝ)
    (h : RowInv (m0 (ix2 r 0)) (l0 (ix2 r 0)) (fun e => a0 (ix2 r e)) E N) :
    RowInv (k0_pay9 q m0 k (ix2 r 0)) (k0_pay12 q m0 l0 k (ix2 r 0)) (fun e => k0_pay13 q m0 a0 k v (ix2 r e))
      (E + ∑ i : Fin 512, Real.exp (s i * kap))
      (fun e => N e + ∑ i : Fin 512, Real.exp (s i * kap) * w i e) := by
  obtain ⟨M, hm, hl, ha⟩ := h
  obtain ⟨B, hB⟩ := fold_max_real (fun i => (k0_pay8 q k (ix2 r i) : EReal))
    (fun i => by show k0_pay8 q k (ix2 r i) ≠ (⊤ : EReal); rw [hs]; simp) r (by
      show k0_pay8 q k (ix2 r r) ≠ (⊥ : EReal); rw [hs]; simp)
  have h9 : k0_pay9 q m0 k (ix2 r 0) = ((max M B : ℝ) : EReal) := by
    refine (pay9_apply q m0 k (ix2 r 0)).trans ?_
    rw [← max_real]
    exact congrArg₂ (fun a b : EReal => max a b) hm hB
  generalize max M B = M' at h9
  have h10 : k0_pay10 q m0 k (ix2 r 0) = ((Real.exp (M * kap - M' * kap) : ℝ) : EReal) := by
    refine (pay10_apply q m0 k (ix2 r 0)).trans ?_
    rw [h9, hm, exp2_cc]
  have h11 : ∀ i : Fin 512, k0_pay11 q m0 k (ix2 r i) = ((Real.exp (s i * kap - M' * kap) : ℝ) : EReal) := by
    intro i
    refine (pay11_apply q m0 k (ix2 r i)).trans ?_
    rw [hs, show k0_pay9 q m0 k (ix2 ((ix2 r i : S512x512.Idx) 0) 0) = (M' : EReal) from h9, exp2_cc]
  refine ⟨M', h9, ?_, fun e => ?_⟩
  · refine (pay12_apply q m0 l0 k (ix2 r 0)).trans ?_
    refine (congrArg₂ (fun a b : EReal => a + b) (congrArg₂ (fun a b : EReal => a * b) h10 hl)
      (Fin.sum_fin_congr (G := fun i => ((Real.exp (s i * kap - M' * kap) * 1 : ℝ) : EReal)) (fun i => ?_))).trans ?_
    · rw [mul_one]; exact h11 i
    · rw [rescale]
      simp only [mul_one]
  · refine (pay13_apply q m0 a0 k v (ix2 r e)).trans ?_
    refine (congrArg₂ (fun a b : EReal => a + b) (congrArg₂ (fun a b : EReal => a * b) h10 (ha e))
      (Fin.sum_fin_congr (G := fun i => ((Real.exp (s i * kap - M' * kap) * w i e : ℝ) : EReal)) (fun i => ?_))).trans ?_
    · refine (congrArg₂ (fun a b : EReal => a * b) (h11 i) (hv i e)).trans ?_
      rw [← EReal.coe_mul]
    · rw [rescale]

end Cert.Hand.Diff

end
-- ==== Proof.DiffLoop.lean ====
module

public import proofs.«01_k».proof.Proof.Gen.DiffIdeal.Value
public import proofs.«01_k».proof.Proof.DiffStep
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

/-! The kernel's loops over the earlier blocks of keys, one for each of the two sub-heads: the state after `k` trips. -/

namespace Cert.Hand.Diff

open Cert.DiffIdeal Cert.DiffIdeal.Gen
open Idealize.ShloMosaic Idealize.ShloMosaic.TcCoe Idealize.SL.Sem

/-- The first loop takes as many trips as there are earlier blocks. -/
theorem trips1 (i : grid0.Coords) : (k0_t1_loop i).trips = (i 2).val :=
  (by decide +kernel : ∀ a : Fin 8, (Scf.Loop.trips ⟨0#32, Scalar.addi 0#32 (Scalar.muli (Scalar.divsi (Scalar.subi
    (BitVec.ofNat 32 a.val) 0#32) 1#32) 1#32), 1#32⟩) = a.val) (i 2)

/-- The remainder loop takes no trip. -/
theorem trips2 (i : grid0.Coords) : (k0_t2_loop i).trips = 0 := Nat.le_zero.mp (k0_t2_abs i).2.1

/-- The second sub-head's loop takes as many trips. -/
theorem trips3 (i : grid0.Coords) : (k0_t3_loop i).trips = (i 2).val := trips1 i

/-- Its remainder loop takes no trip. -/
theorem trips4 (i : grid0.Coords) : (k0_t4_loop i).trips = 0 := Nat.le_zero.mp (k0_t4_abs i).2.1

/-- The sum of the weights of the earlier blocks' keys. -/
abbrev pre (s : ℕ → ℝ) (k : ℕ) : ℝ := ∑ j ∈ Finset.range k, ∑ q : Fin 512, Real.exp (s (512 * j + q.val) * kap)

/-- The same sum, weighted by the values. -/
abbrev preW (s : ℕ → ℝ) (w : ℕ → Fin 256 → ℝ) (k : ℕ) (e : Fin 256) : ℝ :=
  ∑ j ∈ Finset.range k, ∑ q : Fin 512, Real.exp (s (512 * j + q.val) * kap) * w (512 * j + q.val) e

/-- A block's scores, from the scores of the whole row: the block sits at `o` among the keys, at `p` among the columns. -/
theorem scores_at (x8 : Vec Ideal S1x4096x256 .bf16) (q : Vec Ideal S1x512x128 .bf16) (r : Fin 512) (s : ℕ → ℝ) (p : ℕ) (hp : p + 128 ≤ 256)
    (hs : ∀ n (hn : n < 4096), (∑ d : Fin 128, q (ix3 0 r d) * x8 (ix3 0 ⟨n, hn⟩ ⟨p + d.val, by omega⟩)) = ((s n : ℝ) : EReal))
    (off : Fin 3 → ℕ) (inb : ∀ a, off a + S1x512x128.size a ≤ S1x4096x256.size a) (o : ℕ) (ho : off = ![0, o, p]) (k : Fin 512) :
    k0_pay8 q (View.ld x8 (Rect.unit (s := S1x4096x256) off S1x512x128.size inb)) (ix2 r k) = ((s (o + k.val) : ℝ) : EReal) := by
  subst ho
  have h1 := inb 1
  have hk := k.isLt
  refine (pay8_apply q _ (ix2 r k)).trans ?_
  refine Eq.trans (Fin.sum_fin_congr fun d => ?_) (hs (o + k.val) (by
    have : o + 512 ≤ 4096 := h1
    omega))
  refine congrArg₂ (fun a b : EReal => a * b) rfl ?_
  refine (View.ld_apply x8 _ _).trans (congrArg x8 (funext fun a => Fin.ext ((Rect.idx_unit_val _ _ _ _ a).trans ?_)))
  fin_cases a <;> simp

/-- A block's values, from all values of the head. -/
theorem values_at (x9 : Vec Ideal S1x4096x256 .bf16) (w : ℕ → Fin 256 → ℝ)
    (hw : ∀ n (hn : n < 4096) e, x9 (ix3 0 ⟨n, hn⟩ e) = ((w n e : ℝ) : EReal))
    (off : Fin 3 → ℕ) (inb : ∀ a, off a + S1x512x256.size a ≤ S1x4096x256.size a) (o : ℕ) (ho : off = ![0, o, 0]) (k : Fin 512) (e : Fin 256) :
    View.ld x9 (Rect.unit (s := S1x4096x256) off S1x512x256.size inb) (ix3 0 k e) = ((w (o + k.val) e : ℝ) : EReal) := by
  subst ho
  have h1 : o + 512 ≤ 4096 := inb 1
  have hk := k.isLt
  refine Eq.trans ?_ (hw (o + k.val) (by omega) e)
  refine (View.ld_apply x9 _ _).trans (congrArg x9 (funext fun a => Fin.ext ((Rect.idx_unit_val _ _ _ _ a).trans ?_)))
  fin_cases a <;> simp

section
variable (𝒱 : Variants) (c : Dev nD) (bd : Option 𝒱.V) (i : grid0.Coords) (arg3 : Memref sig .tc .vmem S1x128 .f32)
  (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x128 .f32)
  (harg6 : arg6.IsWhole) (arg7 : Memref sig .tc .vmem S1x512x256 .bf16) (harg7 : arg7.IsWhole)
  (arg8 : Memref sig .tc .vmem S1x4096x256 .bf16) (harg8 : arg8.IsWhole) (arg9 : Memref sig .tc .vmem S1x4096x256 .bf16)
  (harg9 : arg9.IsWhole) (arg10 : Memref sig .tc .vmem S1x256 .f32) (harg10 : arg10.IsWhole)
  (arg11 : Memref sig .tc .hbm S4x4096x4096 .bf16) (harg11 : arg11.IsWhole)
  (arg12 : Memref sig .tc .vmem S1x512x256 .bf16) (harg12 : arg12.IsWhole)

/-- A trip of the first sub-head's loop. -/
theorem trip1 (q : Vec Ideal S1x512x128 .bf16) (x8 x9 : Vec Ideal S1x4096x256 .bf16) (k : Fin (k0_t1_loop i).trips)
    (st : FVec Ideal S512x1 .f32 × FVec Ideal S512x1 .f32 × FVec Ideal S512x256 .f32) :
    tripR_k0_t1 (F := Ideal) 𝒱 c bd i arg3 harg3 arg4 harg4 arg5 harg5 arg6 harg6 arg7 harg7 arg8 harg8 arg9 harg9 arg10 harg10 arg11 harg11 arg12 harg12 q (harg8.unread x8) (harg9.unread x9) k st
      = (k0_pay9 q st.1 (View.ld x8 (Rect.unit (s := S1x4096x256) (k0_off3 i k) S1x512x128.size (k0_off3_inb i k))),
        k0_pay12 q st.1 st.2.1 (View.ld x8 (Rect.unit (s := S1x4096x256) (k0_off3 i k) S1x512x128.size (k0_off3_inb i k))),
        k0_pay13 q st.1 st.2.2 (View.ld x8 (Rect.unit (s := S1x4096x256) (k0_off3 i k) S1x512x128.size (k0_off3_inb i k)))
          (View.ld x9 (Rect.unit (s := S1x4096x256) (k0_off4 i k) S1x512x256.size (k0_off4_inb i k)))) := by
  unfold tripR_k0_t1 trip_k0_t1
  frame_out
  try rfl

/-- The state of a row after `k` trips of the first sub-head's loop. -/
theorem loop1 (q : Vec Ideal S1x512x128 .bf16) (x8 x9 : Vec Ideal S1x4096x256 .bf16)
    (init : FVec Ideal S512x1 .f32 × FVec Ideal S512x1 .f32 × FVec Ideal S512x256 .f32) (r : Fin 512) (s : ℕ → ℝ)
    (w : ℕ → Fin 256 → ℝ)
    (hs : ∀ n (hn : n < 4096), (∑ d : Fin 128, q (ix3 0 r d) * x8 (ix3 0 ⟨n, hn⟩ ⟨0 + d.val, by omega⟩)) = ((s n : ℝ) : EReal))
    (hw : ∀ n (hn : n < 4096) e, x9 (ix3 0 ⟨n, hn⟩ e) = ((w n e : ℝ) : EReal)) (E : ℝ) (N : Fin 256 → ℝ)
    (h0 : RowInv (init.1 (ix2 r 0)) (init.2.1 (ix2 r 0)) (fun e => init.2.2 (ix2 r e)) E N) :
    ∀ k, k ≤ (k0_t1_loop i).trips →
      RowInv ((st_k0_t1 (F := Ideal) 𝒱 c bd i arg3 harg3 arg4 harg4 arg5 harg5 arg6 harg6 arg7 harg7 arg8 harg8 arg9 harg9 arg10 harg10 arg11 harg11 arg12 harg12 q (harg8.unread x8) (harg9.unread x9) init k).1 (ix2 r 0))
        ((st_k0_t1 (F := Ideal) 𝒱 c bd i arg3 harg3 arg4 harg4 arg5 harg5 arg6 harg6 arg7 harg7 arg8 harg8 arg9 harg9 arg10 harg10 arg11 harg11 arg12 harg12 q (harg8.unread x8) (harg9.unread x9) init k).2.1 (ix2 r 0))
        (fun e => (st_k0_t1 (F := Ideal) 𝒱 c bd i arg3 harg3 arg4 harg4 arg5 harg5 arg6 harg6 arg7 harg7 arg8 harg8 arg9 harg9 arg10 harg10 arg11 harg11 arg12 harg12 q (harg8.unread x8) (harg9.unread x9) init k).2.2 (ix2 r e))
        (E + pre s k) (fun e => N e + preW s w k e) := by
  intro k
  induction k with
  | zero =>
    intro _
    rw [st_k0_t1_zero]
    simpa [pre, preW] using h0
  | succ k ih =>
    intro hk
    have hi := ih (by omega)
    rw [st_k0_t1_succ 𝒱 c bd i arg3 harg3 arg4 harg4 arg5 harg5 arg6 harg6 arg7 harg7 arg8 harg8 arg9 harg9 arg10 harg10 arg11 harg11 arg12 harg12 q _ _ init ⟨k, hk⟩, trip1]
    generalize st_k0_t1 (F := Ideal) 𝒱 c bd i arg3 harg3 arg4 harg4 arg5 harg5 arg6 harg6 arg7 harg7 arg8 harg8 arg9 harg9 arg10 harg10 arg11 harg11 arg12 harg12 q (harg8.unread x8) (harg9.unread x9) init k = st at hi ⊢
    have hx := step_row q _ _ r (fun j => s (512 * k + j.val)) (fun j => w (512 * k + j.val))
      (scores_at x8 q r s 0 (by norm_num) hs _ (k0_off3_inb i ⟨k, hk⟩) (512 * k) (k0_off3_eq i ⟨k, hk⟩))
      (values_at x9 w hw _ (k0_off4_inb i ⟨k, hk⟩) (512 * k) (k0_off4_eq i ⟨k, hk⟩)) _ _ _ _ _ hi
    simp only [pre, preW, Finset.sum_range_succ, ← add_assoc]
    exact hx

/-- A trip of the second sub-head's loop. -/
theorem trip3 (arg2 v1 : BitVec 32) (q : Vec Ideal S1x512x128 .bf16) (x8 x9 : Vec Ideal S1x4096x256 .bf16) (k : Fin (k0_t3_loop i).trips)
    (st : FVec Ideal S512x1 .f32 × FVec Ideal S512x1 .f32 × FVec Ideal S512x256 .f32) :
    tripR_k0_t3 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9) k st
      = (k0_pay9 q st.1 (View.ld x8 (Rect.unit (s := S1x4096x256) (k0_off8 i k) S1x512x128.size (k0_off8_inb i k))),
        k0_pay12 q st.1 st.2.1 (View.ld x8 (Rect.unit (s := S1x4096x256) (k0_off8 i k) S1x512x128.size (k0_off8_inb i k))),
        k0_pay13 q st.1 st.2.2 (View.ld x8 (Rect.unit (s := S1x4096x256) (k0_off8 i k) S1x512x128.size (k0_off8_inb i k)))
          (View.ld x9 (Rect.unit (s := S1x4096x256) (k0_off9 i k) S1x512x256.size (k0_off9_inb i k)))) := by
  unfold tripR_k0_t3 trip_k0_t3
  frame_out
  try rfl

/-- The state of a row after `k` trips of the second sub-head's loop. -/
theorem loop3 (arg2 v1 : BitVec 32) (q : Vec Ideal S1x512x128 .bf16) (x8 x9 : Vec Ideal S1x4096x256 .bf16)
    (init : FVec Ideal S512x1 .f32 × FVec Ideal S512x1 .f32 × FVec Ideal S512x256 .f32) (r : Fin 512) (s : ℕ → ℝ)
    (w : ℕ → Fin 256 → ℝ)
    (hs : ∀ n (hn : n < 4096), (∑ d : Fin 128, q (ix3 0 r d) * x8 (ix3 0 ⟨n, hn⟩ ⟨128 + d.val, by omega⟩)) = ((s n : ℝ) : EReal))
    (hw : ∀ n (hn : n < 4096) e, x9 (ix3 0 ⟨n, hn⟩ e) = ((w n e : ℝ) : EReal)) (E : ℝ) (N : Fin 256 → ℝ)
    (h0 : RowInv (init.1 (ix2 r 0)) (init.2.1 (ix2 r 0)) (fun e => init.2.2 (ix2 r e)) E N) :
    ∀ k, k ≤ (k0_t3_loop i).trips →
      RowInv ((st_k0_t3 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9) init k).1 (ix2 r 0))
        ((st_k0_t3 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9) init k).2.1 (ix2 r 0))
        (fun e => (st_k0_t3 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9) init k).2.2 (ix2 r e))
        (E + pre s k) (fun e => N e + preW s w k e) := by
  intro k
  induction k with
  | zero =>
    intro _
    rw [st_k0_t3_zero]
    simpa [pre, preW] using h0
  | succ k ih =>
    intro hk
    have hi := ih (by omega)
    rw [st_k0_t3_succ 𝒱 c bd i arg3 harg3 arg4 harg4 arg5 harg5 arg6 harg6 arg7 harg7 arg8 harg8 arg9 harg9 arg10 harg10 arg11 harg11 arg12 harg12 arg2 v1 q _ _ init ⟨k, hk⟩, trip3]
    generalize st_k0_t3 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9) init k = st at hi ⊢
    have hx := step_row q _ _ r (fun j => s (512 * k + j.val)) (fun j => w (512 * k + j.val))
      (scores_at x8 q r s 128 (by norm_num) hs _ (k0_off8_inb i ⟨k, hk⟩) (512 * k) (k0_off8_eq i ⟨k, hk⟩))
      (values_at x9 w hw _ (k0_off9_inb i ⟨k, hk⟩) (512 * k) (k0_off9_eq i ⟨k, hk⟩)) _ _ _ _ _ hi
    simp only [pre, preW, Finset.sum_range_succ, ← add_assoc]
    exact hx

end

end Cert.Hand.Diff

end
-- ==== Proof.DiffHead.lean ====
module

public import proofs.«01_k».proof.Proof.Gen.DiffIdeal.Value
public import proofs.«01_k».proof.Proof.DiffLoop
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

/-! The rows of the two sub-heads after all loops: each is a quotient over the causal prefix of the keys. -/

namespace Cert.Hand.Diff

open Cert.DiffIdeal Cert.DiffIdeal.Gen
open Idealize.ShloMosaic Idealize.SL.Sem

/-- The denominator of a row over the keys up to `t`. -/
abbrev rowE (s : ℕ → ℝ) (t : ℕ) : ℝ := ∑ k : Fin 4096, if k.val ≤ t then Real.exp (s k.val * kap) else 0

/-- The numerator of a row over the keys up to `t`. -/
abbrev rowN (s : ℕ → ℝ) (w : ℕ → Fin 256 → ℝ) (t : ℕ) (e : Fin 256) : ℝ :=
  ∑ k : Fin 4096, if k.val ≤ t then Real.exp (s k.val * kap) * w k.val e else 0

/-- The initial state of a row as a triple of the first sub-head. -/
theorem init_row1 (q k : Vec Ideal S1x512x128 .bf16) (v : Vec Ideal S1x512x256 .bf16) (r : Fin 512) (s : Fin 512 → ℝ)
    (w : Fin 512 → Fin 256 → ℝ) (hs : ∀ i, k0_pay8 q k (ix2 r i) = ((s i : ℝ) : EReal))
    (hv : ∀ i e, v (ix3 0 i e) = ((w i e : ℝ) : EReal)) (init : FVec Ideal S512x1 .f32 × FVec Ideal S512x1 .f32 × FVec Ideal S512x256 .f32)
    (h1 : init.1 = k0_pay4 q k) (h2 : init.2.1 = k0_pay6 q k)
    (h3 : init.2.2 = k0_pay7 q k v) :
    RowInv (init.1 (ix2 r 0)) (init.2.1 (ix2 r 0)) (fun e => init.2.2 (ix2 r e))
      (∑ i : Fin 512, if i.val ≤ r.val then Real.exp (s i * kap) else 0)
      (fun e => ∑ i : Fin 512, if i.val ≤ r.val then Real.exp (s i * kap) * w i e else 0) := by
  rw [h1, h2, h3]
  exact init_row q k v r s w hs hv

/-- The initial state of a row as a triple of the second sub-head. -/
theorem init_row3 (q k : Vec Ideal S1x512x128 .bf16) (v : Vec Ideal S1x512x256 .bf16) (r : Fin 512) (s : Fin 512 → ℝ)
    (w : Fin 512 → Fin 256 → ℝ) (hs : ∀ i, k0_pay8 q k (ix2 r i) = ((s i : ℝ) : EReal))
    (hv : ∀ i e, v (ix3 0 i e) = ((w i e : ℝ) : EReal)) (init : FVec Ideal S512x1 .f32 × FVec Ideal S512x1 .f32 × FVec Ideal S512x256 .f32)
    (h1 : init.1 = k0_pay23 q k) (h2 : init.2.1 = k0_pay25 q k)
    (h3 : init.2.2 = k0_pay26 q k v) :
    RowInv (init.1 (ix2 r 0)) (init.2.1 (ix2 r 0)) (fun e => init.2.2 (ix2 r e))
      (∑ i : Fin 512, if i.val ≤ r.val then Real.exp (s i * kap) else 0)
      (fun e => ∑ i : Fin 512, if i.val ≤ r.val then Real.exp (s i * kap) * w i e else 0) :=
  init_row1 q k v r s w hs hv init h1 h2 h3

section
variable (𝒱 : Variants) (c : Dev nD) (bd : Option 𝒱.V) (i : grid0.Coords) (arg3 : Memref sig .tc .vmem S1x128 .f32)
  (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x128 .f32)
  (harg6 : arg6.IsWhole) (arg7 : Memref sig .tc .vmem S1x512x256 .bf16) (harg7 : arg7.IsWhole)
  (arg8 : Memref sig .tc .vmem S1x4096x256 .bf16) (harg8 : arg8.IsWhole) (arg9 : Memref sig .tc .vmem S1x4096x256 .bf16)
  (harg9 : arg9.IsWhole) (arg10 : Memref sig .tc .vmem S1x256 .f32) (harg10 : arg10.IsWhole)
  (arg11 : Memref sig .tc .hbm S4x4096x4096 .bf16) (harg11 : arg11.IsWhole)
  (arg12 : Memref sig .tc .vmem S1x512x256 .bf16) (harg12 : arg12.IsWhole)

/-- A row of the first sub-head after both loops. -/
theorem head1 (q : Vec Ideal S1x512x128 .bf16) (x8 x9 : Vec Ideal S1x4096x256 .bf16) (r : Fin 512) (s : ℕ → ℝ) (w : ℕ → Fin 256 → ℝ)
    (hs : ∀ n (hn : n < 4096), (∑ d : Fin 128, q (ix3 0 r d) * x8 (ix3 0 ⟨n, hn⟩ ⟨0 + d.val, by omega⟩)) = ((s n : ℝ) : EReal))
    (hw : ∀ n (hn : n < 4096) e, x9 (ix3 0 ⟨n, hn⟩ e) = ((w n e : ℝ) : EReal)) (e : Fin 256) :
    Ideal.div ((st_k0_t2 (F := Ideal) 𝒱 c bd i arg3 harg3 arg4 harg4 arg5 harg5 arg6 harg6 arg7 harg7 arg8 harg8 arg9 harg9 arg10 harg10 arg11 harg11 arg12 harg12 q (harg8.unread x8) (harg9.unread x9)
      (st_k0_t1 (F := Ideal) 𝒱 c bd i arg3 harg3 arg4 harg4 arg5 harg5 arg6 harg6 arg7 harg7 arg8 harg8 arg9 harg9 arg10 harg10 arg11 harg11 arg12 harg12 q (harg8.unread x8) (harg9.unread x9)
        (k0_pay4 q (View.ld x8 (Rect.unit (s := S1x4096x256) (k0_off1 i) S1x512x128.size (k0_off1_inb i))), k0_pay6 q (View.ld x8 (Rect.unit (s := S1x4096x256) (k0_off1 i) S1x512x128.size (k0_off1_inb i))), k0_pay7 q (View.ld x8 (Rect.unit (s := S1x4096x256) (k0_off1 i) S1x512x128.size (k0_off1_inb i))) (View.ld x9 (Rect.unit (s := S1x4096x256) (k0_off2 i) S1x512x256.size (k0_off2_inb i)))) (k0_t1_loop i).trips) (k0_t2_loop i).trips).2.2 (ix2 r e))
      ((st_k0_t2 (F := Ideal) 𝒱 c bd i arg3 harg3 arg4 harg4 arg5 harg5 arg6 harg6 arg7 harg7 arg8 harg8 arg9 harg9 arg10 harg10 arg11 harg11 arg12 harg12 q (harg8.unread x8) (harg9.unread x9)
      (st_k0_t1 (F := Ideal) 𝒱 c bd i arg3 harg3 arg4 harg4 arg5 harg5 arg6 harg6 arg7 harg7 arg8 harg8 arg9 harg9 arg10 harg10 arg11 harg11 arg12 harg12 q (harg8.unread x8) (harg9.unread x9)
        (k0_pay4 q (View.ld x8 (Rect.unit (s := S1x4096x256) (k0_off1 i) S1x512x128.size (k0_off1_inb i))), k0_pay6 q (View.ld x8 (Rect.unit (s := S1x4096x256) (k0_off1 i) S1x512x128.size (k0_off1_inb i))), k0_pay7 q (View.ld x8 (Rect.unit (s := S1x4096x256) (k0_off1 i) S1x512x128.size (k0_off1_inb i))) (View.ld x9 (Rect.unit (s := S1x4096x256) (k0_off2 i) S1x512x256.size (k0_off2_inb i)))) (k0_t1_loop i).trips) (k0_t2_loop i).trips).2.1 (ix2 r 0))
      = ((rowN s w (512 * (i 2).val + r.val) e / rowE s (512 * (i 2).val + r.val) : ℝ) : EReal) := by
  rw [trips2, st_k0_t2_zero]
  generalize hinit : (k0_pay4 q (View.ld x8 (Rect.unit (s := S1x4096x256) (k0_off1 i) S1x512x128.size (k0_off1_inb i))), k0_pay6 q (View.ld x8 (Rect.unit (s := S1x4096x256) (k0_off1 i) S1x512x128.size (k0_off1_inb i))), k0_pay7 q (View.ld x8 (Rect.unit (s := S1x4096x256) (k0_off1 i) S1x512x128.size (k0_off1_inb i))) (View.ld x9 (Rect.unit (s := S1x4096x256) (k0_off2 i) S1x512x256.size (k0_off2_inb i)))) = init
  have h0 := init_row1 q (View.ld x8 (Rect.unit (s := S1x4096x256) (k0_off1 i) S1x512x128.size (k0_off1_inb i))) (View.ld x9 (Rect.unit (s := S1x4096x256) (k0_off2 i) S1x512x256.size (k0_off2_inb i))) r
    (fun j => s (512 * (i 2).val + j.val)) (fun j => w (512 * (i 2).val + j.val))
    (scores_at x8 q r s 0 (by norm_num) hs _ (k0_off1_inb i) _ (k0_off1_eq i)) (values_at x9 w hw _ (k0_off2_inb i) _ (k0_off2_eq i)) init
    (by rw [← hinit]) (by rw [← hinit]) (by rw [← hinit])
  have h := loop1 𝒱 c bd i arg3 harg3 arg4 harg4 arg5 harg5 arg6 harg6 arg7 harg7 arg8 harg8 arg9 harg9 arg10 harg10 arg11 harg11 arg12 harg12 q x8 x9 init r s w hs hw _ _ h0
  have h := h (k0_t1_loop i).trips (Nat.le_refl _)
  have ha : (i 2).val < 8 := (i 2).isLt
  refine (h.quot ?_ e).trans ?_
  · rw [trips1, pre, ← causal_sum (fun n => Real.exp (s n * kap)) (i 2).val r.val r.isLt ha]
    exact (causal_pos (fun n => Real.exp (s n * kap)) (fun n => Real.exp_pos _) _).ne'
  · simp only [trips1, pre, preW]
    rw [← causal_sum (fun n => Real.exp (s n * kap)) (i 2).val r.val r.isLt ha,
      ← causal_sum (fun n => Real.exp (s n * kap) * w n e) (i 2).val r.val r.isLt ha]

/-- A row of the second sub-head after both loops. -/
theorem head3 (arg2 v1 : BitVec 32) (q : Vec Ideal S1x512x128 .bf16) (x8 x9 : Vec Ideal S1x4096x256 .bf16) (r : Fin 512) (s : ℕ → ℝ) (w : ℕ → Fin 256 → ℝ)
    (hs : ∀ n (hn : n < 4096), (∑ d : Fin 128, q (ix3 0 r d) * x8 (ix3 0 ⟨n, hn⟩ ⟨128 + d.val, by omega⟩)) = ((s n : ℝ) : EReal))
    (hw : ∀ n (hn : n < 4096) e, x9 (ix3 0 ⟨n, hn⟩ e) = ((w n e : ℝ) : EReal)) (e : Fin 256) :
    Ideal.div ((st_k0_t4 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9)
      (st_k0_t3 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9)
        (k0_pay23 q (View.ld x8 (Rect.unit (s := S1x4096x256) (k0_off7 i) S1x512x128.size (k0_off7_inb i))), k0_pay25 q (View.ld x8 (Rect.unit (s := S1x4096x256) (k0_off7 i) S1x512x128.size (k0_off7_inb i))), k0_pay26 q (View.ld x8 (Rect.unit (s := S1x4096x256) (k0_off7 i) S1x512x128.size (k0_off7_inb i))) (View.ld x9 (Rect.unit (s := S1x4096x256) (k0_off2 i) S1x512x256.size (k0_off2_inb i)))) (k0_t3_loop i).trips) (k0_t4_loop i).trips).2.2 (ix2 r e))
      ((st_k0_t4 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9)
      (st_k0_t3 (F := Ideal) 𝒱 c bd i arg3 harg3 arg4 harg4 arg5 harg5 arg6 harg6 arg7 harg7 arg8 harg8 arg9 harg9 arg10 harg10 arg11 harg11 arg12 harg12 arg2 v1 q (harg8.unread x8) (harg9.unread x9)
        (k0_pay23 q (View.ld x8 (Rect.unit (s := S1x4096x256) (k0_off7 i) S1x512x128.size (k0_off7_inb i))), k0_pay25 q (View.ld x8 (Rect.unit (s := S1x4096x256) (k0_off7 i) S1x512x128.size (k0_off7_inb i))), k0_pay26 q (View.ld x8 (Rect.unit (s := S1x4096x256) (k0_off7 i) S1x512x128.size (k0_off7_inb i))) (View.ld x9 (Rect.unit (s := S1x4096x256) (k0_off2 i) S1x512x256.size (k0_off2_inb i)))) (k0_t3_loop i).trips) (k0_t4_loop i).trips).2.1 (ix2 r 0))
      = ((rowN s w (512 * (i 2).val + r.val) e / rowE s (512 * (i 2).val + r.val) : ℝ) : EReal) := by
  rw [trips4, st_k0_t4_zero]
  generalize hinit : (k0_pay23 q (View.ld x8 (Rect.unit (s := S1x4096x256) (k0_off7 i) S1x512x128.size (k0_off7_inb i))), k0_pay25 q (View.ld x8 (Rect.unit (s := S1x4096x256) (k0_off7 i) S1x512x128.size (k0_off7_inb i))), k0_pay26 q (View.ld x8 (Rect.unit (s := S1x4096x256) (k0_off7 i) S1x512x128.size (k0_off7_inb i))) (View.ld x9 (Rect.unit (s := S1x4096x256) (k0_off2 i) S1x512x256.size (k0_off2_inb i)))) = init
  have h0 := init_row3 q (View.ld x8 (Rect.unit (s := S1x4096x256) (k0_off7 i) S1x512x128.size (k0_off7_inb i))) (View.ld x9 (Rect.unit (s := S1x4096x256) (k0_off2 i) S1x512x256.size (k0_off2_inb i))) r
    (fun j => s (512 * (i 2).val + j.val)) (fun j => w (512 * (i 2).val + j.val))
    (scores_at x8 q r s 128 (by norm_num) hs _ (k0_off7_inb i) _ (k0_off7_eq i)) (values_at x9 w hw _ (k0_off2_inb i) _ (k0_off2_eq i)) init
    (by rw [← hinit]) (by rw [← hinit]) (by rw [← hinit])
  have h := loop3 𝒱 c bd i arg3 harg3 arg4 harg4 arg5 harg5 arg6 harg6 arg7 harg7 arg8 harg8 arg9 harg9 arg10 harg10 arg11 harg11 arg12 harg12 arg2 v1 q x8 x9 init r s w hs hw _ _ h0
  have h := h (k0_t3_loop i).trips (Nat.le_refl _)
  have ha : (i 2).val < 8 := (i 2).isLt
  refine (h.quot ?_ e).trans ?_
  · rw [trips3, pre, ← causal_sum (fun n => Real.exp (s n * kap)) (i 2).val r.val r.isLt ha]
    exact (causal_pos (fun n => Real.exp (s n * kap)) (fun n => Real.exp_pos _) _).ne'
  · simp only [trips3, pre, preW]
    rw [← causal_sum (fun n => Real.exp (s n * kap)) (i 2).val r.val r.isLt ha,
      ← causal_sum (fun n => Real.exp (s n * kap) * w n e) (i 2).val r.val r.isLt ha]

end

end Cert.Hand.Diff

end
-- ==== Proof.DiffTail.lean ====
module

public import proofs.«01_k».proof.Proof.Gen.DiffIdeal.Value
public import proofs.«01_k».proof.Proof.DiffStep
public import Idealize.ShloMosaic.Lib.Pipeline.ValueKit
public import Idealize.ShloMosaic.Lib.Claim
public import Idealize.ShloMosaic.Lib.Pointwise

@[expose] public section

set_option maxRecDepth 16384

noncomputable section

/-! The end of a block: the weight of the second softmax and the root mean square of a row. -/

namespace Cert.Hand.Diff

open Cert.DiffIdeal Cert.DiffIdeal.Gen
open Idealize.ShloMosaic

/-- The weight of the second softmax: the difference of two exponentials plus a constant. -/
def lam (x2 x3 x4 x5 : Fin 128 → EReal) : EReal :=
  Ideal.exp (∑ d, x2 d * x3 d) - Ideal.exp (∑ d, x4 d * x5 d) + Ideal.ofBits FTy.f32 0x3E4CCCCD#32

/-- The weight of the second softmax is real where its vectors are. -/
theorem lam_real (a b c d : Fin 128 → ℝ) :
    ∃ l : ℝ, lam (fun i => ((a i : ℝ) : EReal)) (fun i => ((b i : ℝ) : EReal)) (fun i => ((c i : ℝ) : EReal)) (fun i => ((d i : ℝ) : EReal)) = ((l : ℝ) : EReal) := by
  obtain ⟨k, hk⟩ : ∃ k : ℝ, (Ideal.ofBits FTy.f32 0x3E4CCCCD#32 : EReal) = ((k : ℝ) : EReal) := by
    refine ⟨13421773 * 2 ^ (-26 : ℤ), ?_⟩
    simp [Ideal.ofBits, Ideal.ieee]
    try (rw [← EReal.coe_mul]; congr 1)
  refine ⟨Real.exp (∑ i, a i * b i) - Real.exp (∑ i, c i * d i) + k, ?_⟩
  unfold lam
  simp only [← EReal.coe_mul, sum_coe, Ideal.exp_coe, hk, ← EReal.coe_sub, ← EReal.coe_add]

/-- The normalized output row: its root mean square, the gain and a constant factor. -/
def tail (o : Fin 256 → EReal) (g : Fin 256 → EReal) (e : Fin 256) : EReal :=
  o e * Ideal.rsqrt (Ideal.div (∑ i, o i * o i) (Ideal.ofBits FTy.f32 0x43800000#32) + Ideal.ofBits FTy.f32 0x3727C5AC#32) * g e
    * Ideal.ofBits FTy.f32 0x3F4CCCCD#32

/-- The kernel's output block: the difference of the two sub-heads' rows, normalized. -/
theorem pay1_apply (o1 o2 : FVec Ideal S512x256 .f32) (a b c d : Vec Ideal S1x128 .f32) (g : Vec Ideal S1x256 .f32) (r : Fin 512) (e : Fin 256) :
    k0_pay1 o1 o2 (k0_pay40 a b) c d g (ix3 0 r e)
      = tail (fun i => o1 (ix2 r i) - lam (fun i => a (ix2 0 i)) (fun i => b (ix2 0 i)) (fun i => c (ix2 0 i)) (fun i => d (ix2 0 i)) * o2 (ix2 r i))
          (fun i => g (ix2 0 i)) e := by
  unfold tail lam
  pointwise [k0_pay1, k0_pay40]

end Cert.Hand.Diff

end
-- ==== Proof.DiffBlocks.lean ====
module

public import proofs.«01_k».proof.Proof.DiffHead
public import proofs.«01_k».proof.Proof.DiffTail
public import Idealize.ShloMosaic.Lib.Pipeline.ReadBack
public import Idealize.ShloMosaic.Lib.Pipeline.ValueKit
public import Idealize.ShloMosaic.Lib.Claim
public import Idealize.ShloMosaic.Lib.Pointwise

@[expose] public section

set_option maxRecDepth 16384

noncomputable section

/-! The kernel's blocks as entries of its arguments. -/

namespace Cert.Hand.Diff

open Cert.DiffIdeal Cert.DiffIdeal.Gen Cert.DiffIdeal.Value
open Idealize.ShloMosaic Idealize.ShloMosaic.TcCoe Idealize.SL.Sem

variable (m : (ℓ : Loc nD τ sig) → Buf (Elt Ideal) ℓ)

/-- The blocks of the windows at a grid point, in terms of the point's position. -/
theorem idx : ∀ t : Fin cfg0.N, (win0_0.index t = ![0, 0]) ∧ (win0_1.index t = ![0, 0]) ∧ (win0_2.index t = ![0, 0]) ∧ (win0_3.index t = ![0, 0])
      ∧ (win0_4.index t = ![t.val / 64, t.val % 8, 24 + t.val / 8 % 8]) ∧ (win0_5.index t = ![t.val / 64, 0, 32 + t.val / 8 % 8])
      ∧ (win0_6.index t = ![t.val / 64, 0, 40 + t.val / 8 % 8]) ∧ (win0_7.index t = ![0, 0])
      ∧ (win0_8.index t = ![t.val / 64, t.val % 8, 8 + t.val / 8 % 8]) ∧ ((grid0.coords t 2).val = t.val % 8) :=
  (by decide +kernel : ∀ t : Fin grid0.N, _)

/-- The queries' block. -/
theorem q_at (c : Dev nD) (t : Fin cfg0.N) (ht : t.val < 256) (r : Fin 512) (d : Fin 256) :
    iblk m c 4 t (ix3 0 r d) = m ((c : Thread nD τ).loc main_arg0)
      (ix3 ⟨t.val / 64, by omega⟩ ⟨512 * (t.val % 8) + r.val, by omega⟩ ⟨6144 + (256 * (t.val / 8 % 8) + d.val), by omega⟩) := by
  blk_point [iblk, V, idx t]

/-- The keys' block. -/
theorem k_at (c : Dev nD) (t : Fin cfg0.N) (ht : t.val < 256) (n : Fin 4096) (d : Fin 256) :
    iblk m c 5 t (ix3 0 n d) = m ((c : Thread nD τ).loc main_arg0)
      (ix3 ⟨t.val / 64, by omega⟩ n ⟨8192 + (256 * (t.val / 8 % 8) + d.val), by omega⟩) := by
  blk_point [iblk, V, idx t]

/-- A half of the queries' block: the sub-head that starts at column `p`. -/
theorem q_half (x7 : Vec Ideal S1x512x256 .bf16) (p : ℕ) (hp : p + 128 ≤ 256) (off : Fin 3 → ℕ)
    (inb : ∀ a, off a + S1x512x128.size a ≤ S1x512x256.size a) (ho : off = ![0, 0, p]) (r : Fin 512) (d : Fin 128) :
    View.ld x7 (Rect.unit (s := S1x512x256) off S1x512x128.size inb) (ix3 0 r d) = x7 (ix3 0 r ⟨p + d.val, by omega⟩) := by
  subst ho
  refine (View.ld_apply x7 _ _).trans (congrArg x7 (funext fun a => Fin.ext ((Rect.idx_unit_val _ _ _ _ a).trans ?_)))
  fin_cases a <;> simp

/-- The values' block. -/
theorem v_at (c : Dev nD) (t : Fin cfg0.N) (ht : t.val < 256) (n : Fin 4096) (e : Fin 256) :
    iblk m c 6 t (ix3 0 n e) = m ((c : Thread nD τ).loc main_arg0)
      (ix3 ⟨t.val / 64, by omega⟩ n ⟨10240 + (256 * (t.val / 8 % 8) + e.val), by omega⟩) := by
  blk_point [iblk, V, idx t]

/-- The blocks of the weights' vectors are these arrays. -/
theorem vec_at (c : Dev nD) (t : Fin cfg0.N) (d : Fin 128) :
    iblk m c 0 t (ix2 0 d) = m ((c : Thread nD τ).loc main_arg2) (ix1 d) ∧ iblk m c 1 t (ix2 0 d) = m ((c : Thread nD τ).loc main_arg3) (ix1 d)
      ∧ iblk m c 2 t (ix2 0 d) = m ((c : Thread nD τ).loc main_arg4) (ix1 d) ∧ iblk m c 3 t (ix2 0 d) = m ((c : Thread nD τ).loc main_arg5) (ix1 d) := by
  refine ⟨?_, ?_, ?_, ?_⟩
  · blk_point [iblk, V, idx t]
  · blk_point [iblk, V, idx t]
  · blk_point [iblk, V, idx t]
  · blk_point [iblk, V, idx t]

/-- The gain's block. -/
theorem g_at (c : Dev nD) (t : Fin cfg0.N) (d : Fin 256) :
    iblk m c 7 t (ix2 0 d) = m ((c : Thread nD τ).loc main_arg6) (ix1 d) := by
  blk_point [iblk, V, idx t]

end Cert.Hand.Diff

end
-- ==== Proof.DiffRef.lean ====
module

public import proofs.«01_k».proof.Proof.Gen.DiffRefIdeal.Read
public import proofs.«01_k».proof.Proof.DiffStep
public import Idealize.ShloMosaic.Lib.Pipeline.ValueKit
public import Idealize.ShloMosaic.Lib.Claim
public import Idealize.ShloMosaic.Lib.Pointwise

@[expose] public section

set_option maxRecDepth 16384

noncomputable section

/-! The reference's differential attention, read at an index, where the projections are real. -/

namespace Cert.Hand.Diff

open Cert.DiffRefIdeal Cert.DiffRefIdeal.Read
open Idealize.ShloMosaic

/-- The scale's bits. -/
theorem ofBits_scale : (Ideal.ofBits FTy.f32 0x3DB504F3#32 : EReal) = ((kap : ℝ) : EReal) := by
  unfold kap
  simp [Ideal.ofBits, Ideal.ieee]
  rw [← EReal.coe_mul]
  congr 1
  norm_num

/-- The queries of a sub-head. -/
theorem v3_at (x0 : (⟨S4x4096x12288, .bf16⟩ : BufTy).Contents (Elt Ideal)) (b : Fin 4) (g : Fin 16) (R : Fin 4096) (d : Fin 128) :
    val_main_v3 (F := Ideal) x0 (ix4 b g R d) = x0 (ix3 b R ⟨6144 + (g.val * 128 + d.val), by omega⟩) := by
  pointwise [val_main_v3, val_main_v2, val_main_v1, val_main_v0]

/-- The keys of a sub-head. -/
theorem v6_at (x0 : (⟨S4x4096x12288, .bf16⟩ : BufTy).Contents (Elt Ideal)) (b : Fin 4) (g : Fin 16) (R : Fin 4096) (d : Fin 128) :
    val_main_v6 (F := Ideal) x0 (ix4 b g R d) = x0 (ix3 b R ⟨8192 + (g.val * 128 + d.val), by omega⟩) := by
  pointwise [val_main_v6, val_main_v5, val_main_v4, val_main_v0]

/-- The values of a head. -/
theorem v9_at (x0 : (⟨S4x4096x12288, .bf16⟩ : BufTy).Contents (Elt Ideal)) (b : Fin 4) (h : Fin 8) (R : Fin 4096) (e : Fin 256) :
    val_main_v9 (F := Ideal) x0 (ix4 b h R e) = x0 (ix3 b R ⟨10240 + (h.val * 256 + e.val), by omega⟩) := by
  pointwise [val_main_v9, val_main_v8, val_main_v7, val_main_v0]

/-- The masked scores. -/
theorem v27_at (x0 : (⟨S4x4096x12288, .bf16⟩ : BufTy).Contents (Elt Ideal)) (b : Fin 4) (g : Fin 16) (R k : Fin 4096) :
    val_main_v27 (F := Ideal) x0 (ix4 b g R k)
      = if k.val ≤ R.val then (∑ d : Fin 128, val_main_v3 (F := Ideal) x0 (ix4 b g R d) * val_main_v6 (F := Ideal) x0 (ix4 b g k d))
          * ((kap : ℝ) : EReal) else (⊥ : EReal) := by
  unfold val_main_v27 val_main_v20 val_main_v18
  generalize val_main_v3 (F := Ideal) x0 = q
  generalize val_main_v6 (F := Ideal) x0 = kk
  pointwise [val_main_call0_v1, val_main_v26, val_main_v24, val_main_v22, val_main_v21, val_main_v25, val_main_v23, val_main_v19,
    val_main_cst_2, val_main_call0_v2, val_main_call0_v0, val_main_cst_3]
  rw [ofBits_scale]
  refine Eq.trans (congrArg (fun a : EReal => Scalar.select _ _ a) (show _ = (⊥ : EReal) from ofBits_ninf)) ?_
  exact select_le (n := 4096) le_rfl k R _ _

/-- The maximum of a row of masked scores. -/
theorem v28_at (x0 : (⟨S4x4096x12288, .bf16⟩ : BufTy).Contents (Elt Ideal)) (b : Fin 4) (g : Fin 16) (R : Fin 4096) :
    val_main_v28 (F := Ideal) x0 (ix3 b g R) = Finset.univ.fold max (⊥ : EReal) fun j : Fin 4096 => val_main_v27 (F := Ideal) x0 (ix4 b g R j) := by
  unfold val_main_v28
  generalize val_main_v27 (F := Ideal) x0 = z
  pointwise [val_main_cst_4]
  rw [ofBits_ninf]

/-- The maximum with minus infinity changes nothing. -/
theorem v30_at (x0 : (⟨S4x4096x12288, .bf16⟩ : BufTy).Contents (Elt Ideal)) (i : S4x16x4096.Idx) :
    val_main_v30 (F := Ideal) x0 i = val_main_v28 (F := Ideal) x0 i := by
  rw [val_main_v30_apply, val_main_v29_apply, val_main_cst_5_apply]
  show max (Ideal.ofBits FTy.f32 0xFF800000#32 : EReal) _ = _
  rw [ofBits_ninf]
  exact bot_sup_eq _

/-- The exponentials of a row, shifted by its maximum. -/
theorem v34_at (x0 : (⟨S4x4096x12288, .bf16⟩ : BufTy).Contents (Elt Ideal)) (b : Fin 4) (g : Fin 16) (R k : Fin 4096) :
    val_main_v34 (F := Ideal) x0 (ix4 b g R k) = Ideal.exp (val_main_v27 (F := Ideal) x0 (ix4 b g R k) - val_main_v28 (F := Ideal) x0 (ix3 b g R)) := by
  rw [val_main_v34_apply, val_main_v33_apply, val_main_v32_apply, val_main_v31_apply, v30_at]
  generalize val_main_v27 (F := Ideal) x0 = z
  generalize val_main_v28 (F := Ideal) x0 = z'
  show Ideal.exp (_ - z' _) = _
  refine congrArg (fun a : EReal => Ideal.exp (_ - a)) (congrArg z' ?_)
  exact funext fun a => Fin.ext (by match a with | ⟨0, _⟩ => rfl | ⟨1, _⟩ => rfl | ⟨2, _⟩ => rfl)

/-- The softmax weights as quotients. -/
theorem v38_at (x0 : (⟨S4x4096x12288, .bf16⟩ : BufTy).Contents (Elt Ideal)) (b : Fin 4) (g : Fin 16) (R k : Fin 4096) :
    val_main_v38 (F := Ideal) x0 (ix4 b g R k) = Ideal.div (val_main_v34 (F := Ideal) x0 (ix4 b g R k)) (val_main_v35 (F := Ideal) x0 (ix3 b g R)) := by
  unfold val_main_v38 val_main_v37 val_main_v36
  generalize val_main_v34 (F := Ideal) x0 = z
  generalize val_main_v35 (F := Ideal) x0 = z'
  pointwise []

/-- The sum of a row's exponentials. -/
theorem v35_at (x0 : (⟨S4x4096x12288, .bf16⟩ : BufTy).Contents (Elt Ideal)) (b : Fin 4) (g : Fin 16) (R : Fin 4096) :
    val_main_v35 (F := Ideal) x0 (ix3 b g R) = ∑ k : Fin 4096, val_main_v34 (F := Ideal) x0 (ix4 b g R k) := by
  unfold val_main_v35
  generalize val_main_v34 (F := Ideal) x0 = z
  pointwise [val_main_cst_6]

/-- The score of a query row against key `n`, on the real projections. -/
def score (P : S4x4096x12288.Idx → ℝ) (b : Fin 4) (g : Fin 16) (R : Fin 4096) (n : ℕ) : ℝ :=
  if hn : n < 4096 then ∑ d : Fin 128, P (ix3 b R ⟨6144 + (g.val * 128 + d.val), by omega⟩) * P (ix3 b ⟨n, hn⟩ ⟨8192 + (g.val * 128 + d.val), by omega⟩)
  else 0

/-- Entry `e` of value `n` of a head, on the real projections. -/
def value (P : S4x4096x12288.Idx → ℝ) (b : Fin 4) (h : Fin 8) (n : ℕ) (e : Fin 256) : ℝ :=
  if hn : n < 4096 then P (ix3 b ⟨n, hn⟩ ⟨10240 + (h.val * 256 + e.val), by omega⟩) else 0

/-- The softmax denominator of a row: the exponentials of the scaled scores up to the row. -/
def den (P : S4x4096x12288.Idx → ℝ) (b : Fin 4) (g : Fin 16) (R : Fin 4096) : ℝ :=
  ∑ k : Fin 4096, if k.val ≤ R.val then Real.exp (score P b g R k.val * kap) else 0

/-- The softmax numerator of a row: the values weighted by the exponentials. -/
def num (P : S4x4096x12288.Idx → ℝ) (b : Fin 4) (g : Fin 16) (h : Fin 8) (R : Fin 4096) (e : Fin 256) : ℝ :=
  ∑ k : Fin 4096, if k.val ≤ R.val then Real.exp (score P b g R k.val * kap) * value P b h k.val e else 0

/-- The softmax weights of real projections. -/
theorem v38_real (x0 : (⟨S4x4096x12288, .bf16⟩ : BufTy).Contents (Elt Ideal)) (P : S4x4096x12288.Idx → ℝ)
    (hP : ∀ i, x0 i = ((P i : ℝ) : EReal)) (b : Fin 4) (g : Fin 16) (R k : Fin 4096) :
    val_main_v38 (F := Ideal) x0 (ix4 b g R k)
      = (((if k.val ≤ R.val then Real.exp (score P b g R k.val * kap) else 0) / den P b g R : ℝ) : EReal) := by
  rw [v38_at, v35_at]
  simp only [v34_at, v28_at]
  refine softmax_row (fun j => val_main_v27 (F := Ideal) x0 (ix4 b g R j)) (fun j => score P b g R j.val * kap) (fun j => j.val ≤ R.val)
    (fun j => ?_) R le_rfl k
  rw [v27_at]
  refine if_congr Iff.rfl ?_ rfl
  simp only [v3_at, v6_at, hP, ← EReal.coe_mul, sum_coe]
  congr 2
  rw [score, dif_pos j.isLt]

/-- The first sub-head's weights. -/
theorem v41_at (x0 : (⟨S4x4096x12288, .bf16⟩ : BufTy).Contents (Elt Ideal)) (b : Fin 4) (h : Fin 8) (R k : Fin 4096) :
    val_main_v41 (F := Ideal) x0 (ix4 b h R k) = val_main_v38 (F := Ideal) x0 (ix4 b ⟨h.val * 2, by omega⟩ R k) := by
  unfold val_main_v41 val_main_v40 val_main_v39
  generalize val_main_v38 (F := Ideal) x0 = z
  pointwise []

/-- The second sub-head's weights. -/
theorem v43_at (x0 : (⟨S4x4096x12288, .bf16⟩ : BufTy).Contents (Elt Ideal)) (b : Fin 4) (h : Fin 8) (R k : Fin 4096) :
    val_main_v43 (F := Ideal) x0 (ix4 b h R k) = val_main_v38 (F := Ideal) x0 (ix4 b ⟨h.val * 2 + 1, by omega⟩ R k) := by
  unfold val_main_v43 val_main_v42 val_main_v39
  generalize val_main_v38 (F := Ideal) x0 = z
  pointwise []

end Cert.Hand.Diff

end
-- ==== Proof.DiffRefOut.lean ====
module

public import proofs.«01_k».proof.Proof.Gen.DiffRefIdeal.Read
public import proofs.«01_k».proof.Proof.DiffRef
public import proofs.«01_k».proof.Proof.DiffTail
public import Idealize.ShloMosaic.Lib.Pipeline.ValueKit
public import Idealize.ShloMosaic.Lib.Claim
public import Idealize.ShloMosaic.Lib.Pointwise

@[expose] public section

set_option maxRecDepth 16384

noncomputable section

/-! The reference's output rows and its result, read at an index, where the projections are real. -/

namespace Cert.Hand.Diff

open Cert.DiffRefIdeal Cert.DiffRefIdeal.Read
open Idealize.ShloMosaic

/-- The reference's weight of the second softmax. -/
theorem v17_at (x2 x3 x4 x5 : (⟨S128, .f32⟩ : BufTy).Contents (Elt Ideal)) (i : S_.Idx) :
    val_main_v17 (F := Ideal) x2 x3 x4 x5 i
      = lam (fun d => x2 (ix1 d)) (fun d => x3 (ix1 d)) (fun d => x4 (ix1 d)) (fun d => x5 (ix1 d)) := by
  pointwise [val_main_v17, val_main_v16, val_main_v12, val_main_v11, val_main_v10, val_main_v15, val_main_v14, val_main_v13, val_main_cst,
    val_main_cst_0, val_main_cst_1]
  unfold lam
  with_reducible rfl

/-- The weighted values, as a sum over all keys. -/
theorem v47_at (x0 : (⟨S4x4096x12288, .bf16⟩ : BufTy).Contents (Elt Ideal)) (x2 x3 x4 x5 : (⟨S128, .f32⟩ : BufTy).Contents (Elt Ideal))
    (b : Fin 4) (h : Fin 8) (R : Fin 4096) (e : Fin 256) :
    val_main_v47 (F := Ideal) x0 x2 x3 x4 x5 (ix4 b h R e)
      = ∑ k : Fin 4096, (val_main_v41 (F := Ideal) x0 (ix4 b h R k)
          - val_main_v17 (F := Ideal) x2 x3 x4 x5 ix0 * val_main_v43 (F := Ideal) x0 (ix4 b h R k)) * val_main_v9 (F := Ideal) x0 (ix4 b h k e) := by
  have e1 : ∀ k : Fin 4096, lidx_main_v47 (ix4 b h R e) k = ix4 b h R k := fun k =>
    funext fun a => Fin.ext (by match a with | ⟨0, _⟩ => rfl | ⟨1, _⟩ => rfl | ⟨2, _⟩ => rfl | ⟨3, _⟩ => rfl)
  have e2 : ∀ k : Fin 4096, ridx_main_v47 (ix4 b h R e) k = ix4 b h k e := fun k =>
    funext fun a => Fin.ext (by match a with | ⟨0, _⟩ => rfl | ⟨1, _⟩ => rfl | ⟨2, _⟩ => rfl | ⟨3, _⟩ => rfl)
  rw [val_main_v47_apply]
  refine Finset.sum_congr rfl fun k _ => ?_
  rw [e1, e2, val_main_v46_apply, val_main_v45_apply, val_main_v44_apply, v17_at, v17_at, Ideal.subf_def, Ideal.mulf_def]

/-- The weighted values of real projections: the difference of the two sub-heads' attentions. -/
theorem v47_real (x0 : (⟨S4x4096x12288, .bf16⟩ : BufTy).Contents (Elt Ideal)) (P : S4x4096x12288.Idx → ℝ)
    (hP : ∀ i, x0 i = ((P i : ℝ) : EReal)) (x2 x3 x4 x5 : (⟨S128, .f32⟩ : BufTy).Contents (Elt Ideal)) (l : ℝ)
    (hl : lam (fun d => x2 (ix1 d)) (fun d => x3 (ix1 d)) (fun d => x4 (ix1 d)) (fun d => x5 (ix1 d)) = ((l : ℝ) : EReal))
    (b : Fin 4) (h : Fin 8) (R : Fin 4096) (e : Fin 256) :
    val_main_v47 (F := Ideal) x0 x2 x3 x4 x5 (ix4 b h R e)
      = ((num P b ⟨h.val * 2, by omega⟩ h R e / den P b ⟨h.val * 2, by omega⟩ R
          - l * (num P b ⟨h.val * 2 + 1, by omega⟩ h R e / den P b ⟨h.val * 2 + 1, by omega⟩ R) : ℝ) : EReal) := by
  rw [v47_at, v17_at, hl]
  simp only [v41_at, v43_at, v38_real x0 P hP, v9_at, hP, ← EReal.coe_mul, ← EReal.coe_sub, sum_coe]
  congr 1
  unfold num
  rw [Finset.sum_div, Finset.sum_div, Finset.mul_sum, ← Finset.sum_sub_distrib]
  refine Finset.sum_congr rfl fun k _ => ?_
  rw [value, dif_pos k.isLt]
  split <;> ring

/-- The bits of zero. -/
theorem ofBits_zero : (Ideal.ofBits FTy.f32 0x00000000#32 : EReal) = 0 := by
  simp [Ideal.ofBits, Ideal.ieee]

/-- The mean square's sum of a row. -/
theorem v49_at (x0 : (⟨S4x4096x12288, .bf16⟩ : BufTy).Contents (Elt Ideal)) (x2 x3 x4 x5 : (⟨S128, .f32⟩ : BufTy).Contents (Elt Ideal))
    (b : Fin 4) (h : Fin 8) (R : Fin 4096) :
    val_main_v49 (F := Ideal) x0 x2 x3 x4 x5 (ix3 b h R)
      = ∑ i : Fin 256, val_main_v47 (F := Ideal) x0 x2 x3 x4 x5 (ix4 b h R i) * val_main_v47 (F := Ideal) x0 x2 x3 x4 x5 (ix4 b h R i) := by
  have e1 : ∀ k : Fin 256, idx_main_v49 (ix3 b h R) k = ix4 b h R k := fun k =>
    funext fun a => Fin.ext (by match a with | ⟨0, _⟩ => rfl | ⟨1, _⟩ => rfl | ⟨2, _⟩ => rfl | ⟨3, _⟩ => rfl)
  rw [val_main_v49_apply, val_main_cst_7_apply, Ideal.ofBits_def, ofBits_zero]
  refine (zero_add _).trans (Finset.sum_congr rfl fun k _ => ?_)
  rw [e1, val_main_v48_apply, Ideal.mulf_def]

/-- The reciprocal root mean square of a row. -/
theorem v56_at (x0 : (⟨S4x4096x12288, .bf16⟩ : BufTy).Contents (Elt Ideal)) (x2 x3 x4 x5 : (⟨S128, .f32⟩ : BufTy).Contents (Elt Ideal))
    (b : Fin 4) (h : Fin 8) (R : Fin 4096) (e : Fin 256) :
    val_main_v56 (F := Ideal) x0 x2 x3 x4 x5 (ix4 b h R e)
      = Ideal.rsqrt (Ideal.div (val_main_v49 (F := Ideal) x0 x2 x3 x4 x5 (ix3 b h R)) (Ideal.ofBits FTy.f32 0x43800000#32) + Ideal.ofBits FTy.f32 0x3727C5AC#32) := by
  have e1 : idx_main_v50 (idx_main_v56 (ix4 b h R e)) = ix3 b h R :=
    funext fun a => Fin.ext (by match a with | ⟨0, _⟩ => rfl | ⟨1, _⟩ => rfl | ⟨2, _⟩ => rfl)
  rw [val_main_v56_apply, val_main_v55_apply, val_main_v54_apply, val_main_v52_apply, val_main_v50_apply, e1, val_main_v51_apply,
    val_main_cst_8_apply, val_main_v53_apply, val_main_cst_9_apply, Ideal.hostUnary_rsqrt_def, Ideal.addf_def, Ideal.hostDivf_def,
    Ideal.ofBits_def, Ideal.ofBits_def]

/-- The gain of an entry. -/
theorem v59_at (x6 : (⟨S256, .f32⟩ : BufTy).Contents (Elt Ideal)) (b : Fin 4) (h : Fin 8) (R : Fin 4096) (e : Fin 256) :
    val_main_v59 (F := Ideal) x6 (ix4 b h R e) = x6 (ix1 e) := by
  rw [val_main_v59_apply, val_main_v58_apply]
  exact congrArg x6 (funext fun a => Fin.ext (by match a with | ⟨0, _⟩ => rfl))

/-- The reference's normalized output rows. -/
theorem v62_at (x0 : (⟨S4x4096x12288, .bf16⟩ : BufTy).Contents (Elt Ideal)) (x2 x3 x4 x5 : (⟨S128, .f32⟩ : BufTy).Contents (Elt Ideal))
    (x6 : (⟨S256, .f32⟩ : BufTy).Contents (Elt Ideal)) (b : Fin 4) (h : Fin 8) (R : Fin 4096) (e : Fin 256) :
    val_main_v62 (F := Ideal) x0 x2 x3 x4 x5 x6 (ix4 b h R e)
      = tail (fun i => val_main_v47 (F := Ideal) x0 x2 x3 x4 x5 (ix4 b h R i)) (fun i => x6 (ix1 i)) e := by
  rw [val_main_v62_apply, val_main_v60_apply, val_main_v57_apply, v56_at, v49_at, v59_at, val_main_v61_apply, val_main_cst_10_apply, Ideal.mulf_def, Ideal.mulf_def,
    Ideal.mulf_def, Ideal.ofBits_def]
  unfold tail
  with_reducible rfl

/-- The columns of the result that hold the heads. -/
theorem v67_hi (x0 : (⟨S4x4096x12288, .bf16⟩ : BufTy).Contents (Elt Ideal)) (x1 : (⟨S4x4096x4096, .bf16⟩ : BufTy).Contents (Elt Ideal))
    (x2 x3 x4 x5 : (⟨S128, .f32⟩ : BufTy).Contents (Elt Ideal)) (x6 : (⟨S256, .f32⟩ : BufTy).Contents (Elt Ideal))
    (b : Fin 4) (h : Fin 8) (R : Fin 4096) (e : Fin 256) :
    val_main_v67 (F := Ideal) x0 x1 x2 x3 x4 x5 x6 (ix3 b R ⟨2048 + (h.val * 256 + e.val), by omega⟩)
      = val_main_v62 (F := Ideal) x0 x2 x3 x4 x5 x6 (ix4 b h R e) := by
  unfold val_main_v67 val_main_v66 val_main_v65 val_main_v64
  generalize val_main_v62 (F := Ideal) x0 x2 x3 x4 x5 x6 = z
  pointwise [val_main_v63]

/-- The other columns of the result, which are the merged array's. -/
theorem v67_lo (x0 : (⟨S4x4096x12288, .bf16⟩ : BufTy).Contents (Elt Ideal)) (x1 : (⟨S4x4096x4096, .bf16⟩ : BufTy).Contents (Elt Ideal))
    (x2 x3 x4 x5 : (⟨S128, .f32⟩ : BufTy).Contents (Elt Ideal)) (x6 : (⟨S256, .f32⟩ : BufTy).Contents (Elt Ideal))
    (b : Fin 4) (R : Fin 4096) (c : Fin 4096) (hc : c.val < 2048) :
    val_main_v67 (F := Ideal) x0 x1 x2 x3 x4 x5 x6 (ix3 b R c) = x1 (ix3 b R c) := by
  unfold val_main_v67
  generalize val_main_v66 (F := Ideal) x0 x2 x3 x4 x5 x6 = z
  pointwise [val_main_v63]
  exact dif_pos hc

end Cert.Hand.Diff

end
-- ==== Proof.DiffValue.lean ====
module

public import proofs.«01_k».proof.Proof.DiffBlocks
public import proofs.«01_k».proof.Proof.DiffRefOut
public import Idealize.ShloMosaic.Lib.Pipeline.ReadBack
public import Idealize.ShloMosaic.Lib.Pipeline.ValueKit
public import Idealize.ShloMosaic.Lib.Claim
public import Idealize.ShloMosaic.Lib.Pointwise

@[expose] public section

set_option maxRecDepth 16384

noncomputable section

/-! The differential attention: a grid point's output block. -/

namespace Cert.Hand.Diff

open Cert.DiffIdeal Cert.DiffIdeal.Gen Cert.DiffIdeal.Value
open Idealize.ShloMosaic Idealize.ShloMosaic.TcCoe Idealize.SL.Sem

variable (m : (ℓ : Loc nD τ sig) → Buf (Elt Ideal) ℓ)

/-- The queries' block of a grid point. -/
abbrev qBlk (c : Dev nD) (t : Fin cfg0.N) : Vec Ideal S1x512x256 .bf16 := iblk m c 4 t

/-- The keys' block of a grid point. -/
abbrev kBlk (c : Dev nD) (t : Fin cfg0.N) : Vec Ideal S1x4096x256 .bf16 := iblk m c 5 t

/-- The values' block of a grid point. -/
abbrev vBlk (c : Dev nD) (t : Fin cfg0.N) : Vec Ideal S1x4096x256 .bf16 := iblk m c 6 t

/-- A row's scores against all keys, for the sub-head that starts at column `p` of its head. -/
theorem block_scores (c : Dev nD) (t : Fin cfg0.N) (ht : t.val < 256) (P : S4x4096x12288.Idx → ℝ)
    (hP : ∀ i, m ((c : Thread nD τ).loc main_arg0) i = ((P i : ℝ) : EReal)) (p : ℕ) (hp : p + 128 ≤ 256) (off : Fin 3 → ℕ)
    (inb : ∀ a, off a + S1x512x128.size a ≤ S1x512x256.size a) (ho : off = ![0, 0, p]) (g : Fin 16)
    (hg : g.val * 128 = 256 * (t.val / 8 % 8) + p) (r : Fin 512) (n : ℕ) (hn : n < 4096) :
    (∑ d : Fin 128, View.ld (qBlk m c t) (Rect.unit (s := S1x512x256) off S1x512x128.size inb) (ix3 0 r d)
        * kBlk m c t (ix3 0 ⟨n, hn⟩ ⟨p + d.val, by omega⟩))
      = ((score P ⟨t.val / 64, by omega⟩ g ⟨512 * (t.val % 8) + r.val, by omega⟩ n : ℝ) : EReal) := by
  rw [score, dif_pos hn, ← sum_coe]
  refine Finset.sum_congr rfl fun d _ => ?_
  rw [EReal.coe_mul, q_half (qBlk m c t) p hp off inb ho r d, show qBlk m c t _ = _ from q_at m c t ht r _, show kBlk m c t _ = _ from k_at m c t ht _ _, hP, hP]
  refine congrArg₂ (fun a b : ℝ => ((a : ℝ) : EReal) * ((b : ℝ) : EReal)) ?_ ?_
  · refine congrArg P (congrArg (ix3 _ _) (Fin.ext ?_))
    show 6144 + (256 * (t.val / 8 % 8) + (p + d.val)) = 6144 + (g.val * 128 + d.val)
    omega
  · refine congrArg P (congrArg (ix3 _ _) (Fin.ext ?_))
    show 8192 + (256 * (t.val / 8 % 8) + (p + d.val)) = 8192 + (g.val * 128 + d.val)
    omega

/-- The values' block. -/
theorem block_values (c : Dev nD) (t : Fin cfg0.N) (ht : t.val < 256) (P : S4x4096x12288.Idx → ℝ)
    (hP : ∀ i, m ((c : Thread nD τ).loc main_arg0) i = ((P i : ℝ) : EReal)) (n : ℕ) (hn : n < 4096) (e : Fin 256) :
    vBlk m c t (ix3 0 ⟨n, hn⟩ e) = ((value P ⟨t.val / 64, by omega⟩ ⟨t.val / 8 % 8, by omega⟩ n e : ℝ) : EReal) := by
  rw [value, dif_pos hn, show vBlk m c t _ = _ from v_at m c t ht _ _, hP]
  refine congrArg (fun i => ((P i : ℝ) : EReal)) (congrArg (ix3 _ _) (Fin.ext ?_))
  show 10240 + (256 * (t.val / 8 % 8) + e.val) = 10240 + (t.val / 8 % 8 * 256 + e.val)
  omega

/-- The block a grid point writes: the normalized difference of the two sub-heads' rows. -/
theorem out_at (c : Dev nD) (t : Fin cfg0.N) (r : Fin 512) (e : Fin 256) (s1 s2 : ℕ → ℝ) (w : ℕ → Fin 256 → ℝ)
    (hs1 : ∀ n (hn : n < 4096), (∑ d : Fin 128, View.ld (qBlk m c t) (Rect.unit (s := S1x512x256) ![0, 0, 0] S1x512x128.size inb_S1x512x256_S1x512x128_0_0_0) (ix3 0 r d)
        * kBlk m c t (ix3 0 ⟨n, hn⟩ ⟨0 + d.val, by omega⟩)) = ((s1 n : ℝ) : EReal))
    (hs2 : ∀ n (hn : n < 4096), (∑ d : Fin 128, View.ld (qBlk m c t) (Rect.unit (s := S1x512x256) ![0, 0, 128] S1x512x128.size inb_S1x512x256_S1x512x128_0_0_128) (ix3 0 r d)
        * kBlk m c t (ix3 0 ⟨n, hn⟩ ⟨128 + d.val, by omega⟩)) = ((s2 n : ℝ) : EReal))
    (hw : ∀ n (hn : n < 4096) e, vBlk m c t (ix3 0 ⟨n, hn⟩ e) = ((w n e : ℝ) : EReal)) :
    (dats m 0 c).after 8 t (ix3 0 r e)
      = tail (fun i => ((rowN s1 w (512 * (grid0.coords t 2).val + r.val) i / rowE s1 (512 * (grid0.coords t 2).val + r.val) : ℝ) : EReal)
          - lam (fun i => iblk m c 0 t (ix2 0 i)) (fun i => iblk m c 1 t (ix2 0 i)) (fun i => iblk m c 2 t (ix2 0 i)) (fun i => iblk m c 3 t (ix2 0 i))
            * ((rowN s2 w (512 * (grid0.coords t 2).val + r.val) i / rowE s2 (512 * (grid0.coords t 2).val + r.val) : ℝ) : EReal))
          (fun i => iblk m c 7 t (ix2 0 i)) e := by
  rw [after0_8]; unfold outsAt0; frame_out
  rw [pay1_apply]
  refine congrArg (fun f => tail f _ e) (funext fun i => ?_)
  refine congrArg₂ (fun a b : EReal => a - _ * b) ?_ ?_
  · rw [pay20_apply]
    exact head1 (c := c) (x8 := kBlk m c t) (x9 := vBlk m c t) (r := r) (s := s1) (w := w) (hs := hs1) (hw := hw) (e := i) ..
  · refine (pay20_apply _ _ _).trans ?_
    exact head3 (c := c) (x8 := kBlk m c t) (x9 := vBlk m c t) (r := r) (s := s2) (w := w) (hs := hs2) (hw := hw) (e := i) ..

end Cert.Hand.Diff

end
-- ==== Proof.DiffFinite.lean ====
module

public import proofs.«01_k».proof.Proof.DiffValue
public import proofs.«01_k».proof.Pre_finite_inputs
public import Idealize.ShloMosaic.Lib.Pipeline.ReadBack
public import Idealize.ShloMosaic.Lib.Pipeline.ValueKit
public import Idealize.ShloMosaic.Lib.Claim
public import Idealize.ShloMosaic.Lib.Pointwise

@[expose] public section

set_option maxRecDepth 16384

noncomputable section

/-! The precondition of the differential attention, read as statements about real numbers. -/

namespace Cert.Hand.Diff

open Cert.DiffIdeal Cert.DiffIdeal.Gen Cert.DiffIdeal.Value
open Idealize.ShloMosaic Idealize.ShloMosaic.TcCoe Idealize.SL.Sem

/-- The bits of infinity. -/
theorem ofBits_inf : (Ideal.ofBits FTy.f32 0x7F800000#32 : EReal) = ⊤ := by
  simp [Ideal.ofBits, Ideal.ieee]

/-- An extended real below infinity in absolute value is real. -/
theorem real_of_abs_lt (x : EReal) (h : max x (-x) < ⊤) : x = ((x.toReal : ℝ) : EReal) := by
  refine (EReal.coe_toReal ?_ ?_).symm
  · rintro rfl
    simp at h
  · rintro rfl
    simp at h

/-- An array whose entries all compare below infinity in absolute value is an array of reals. -/
theorem reals {s : Shape} (x : FVec Ideal s .f32) (hb : Cert.Pre_finite_inputs.S_.BroadcastsInDim s (![] : Fin 0 → Fin s.rank))
    (h : cmpf .olt (Host.absf x) (broadcastInDim s ![] hb (constant (F := Ideal) Cert.Pre_finite_inputs.S_ .f32 0x7F800000#32)) = fun _ => 1#1) (i : s.Idx) :
    x i = (((x i : EReal).toReal : ℝ) : EReal) := by
  have hi := congrFun h i
  have hi : Ideal.cmp .olt (max (x i : EReal) (-(x i : EReal))) (Ideal.ofBits FTy.f32 0x7F800000#32 : EReal) = 1#1 := hi
  rw [ofBits_inf] at hi
  refine real_of_abs_lt _ ?_
  by_contra hc
  simp [Ideal.cmp, hc] at hi

/-- What the precondition says: the projection's entries are reals, and the four vectors make the weight of the second map real. -/
theorem reals_of_pre [Cert.Pre_finite_inputs.Facts] (x0 : FVec Ideal S4x4096x12288 .bf16) (x1 : FVec Ideal S4x4096x4096 .bf16) (x2 x3 x4 x5 : FVec Ideal S128 .f32) (x6 : FVec Ideal S256 .f32)
    (h : (Cert.Pre_finite_inputs.fn (F := Ideal) x0 x1 x2 x3 x4 x5 x6).1 = (fun _ => 1#1)
      ∧ (Cert.Pre_finite_inputs.fn (F := Ideal) x0 x1 x2 x3 x4 x5 x6).2.1 = (fun _ => 1#1)
      ∧ (Cert.Pre_finite_inputs.fn (F := Ideal) x0 x1 x2 x3 x4 x5 x6).2.2.1 = (fun _ => 1#1)
      ∧ (Cert.Pre_finite_inputs.fn (F := Ideal) x0 x1 x2 x3 x4 x5 x6).2.2.2.1 = (fun _ => 1#1)
      ∧ (Cert.Pre_finite_inputs.fn (F := Ideal) x0 x1 x2 x3 x4 x5 x6).2.2.2.2 = (fun _ => 1#1)) :
    (∃ P : S4x4096x12288.Idx → ℝ, ∀ i, x0 i = ((P i : ℝ) : EReal))
      ∧ ∃ l : ℝ, lam (fun d => x2 (ix1 d)) (fun d => x3 (ix1 d)) (fun d => x4 (ix1 d)) (fun d => x5 (ix1 d)) = ((l : ℝ) : EReal) := by
  obtain ⟨h0, h2, h3, h4, h5⟩ := h
  have r2 := reals x2 _ h2
  have r3 := reals x3 _ h3
  have r4 := reals x4 _ h4
  have r5 := reals x5 _ h5
  have r0 := reals (extf .f32 x0 Cert.Pre_finite_inputs.Facts.bitsLt_bf16_f32) _ h0
  refine ⟨⟨_, r0⟩, ?_⟩
  obtain ⟨l, hl⟩ := lam_real (fun d => (x2 (ix1 d) : EReal).toReal) (fun d => (x3 (ix1 d) : EReal).toReal) (fun d => (x4 (ix1 d) : EReal).toReal)
    (fun d => (x5 (ix1 d) : EReal).toReal)
  refine ⟨l, Eq.trans ?_ hl⟩
  simp only [← r2, ← r3, ← r4, ← r5]

end Cert.Hand.Diff

end
-- ==== Proof.DiffFinal.lean ====
module

public import proofs.«01_k».proof.Proof.DiffValue
public import proofs.«01_k».proof.Proof.DiffFinite
public import Idealize.ShloMosaic.Lib.Pipeline.ReadBack
public import Idealize.ShloMosaic.Lib.Pipeline.ValueKit
public import Idealize.ShloMosaic.Lib.Claim
public import Idealize.ShloMosaic.Lib.Pointwise

@[expose] public section

set_option maxRecDepth 16384

noncomputable section

/-! The differential attention: the output array is the reference's result. -/

namespace Cert.Hand.Diff

open Cert.DiffIdeal Cert.DiffIdeal.Gen Cert.DiffIdeal.Value
open Idealize.ShloMosaic Idealize.ShloMosaic.TcCoe Idealize.SL.Sem

variable (m : (ℓ : Loc nD τ sig) → Buf (Elt Ideal) ℓ)

/-- The result as the reference computes it from its seven arguments. -/
abbrev G (x0 : FVec Ideal S4x4096x12288 .bf16) (x1 : FVec Ideal S4x4096x4096 .bf16) (x2 x3 x4 x5 : FVec Ideal S128 .f32) (x6 : FVec Ideal S256 .f32) :
    FVec Ideal S4x4096x4096 .bf16 :=
  Cert.DiffRefIdeal.Read.val_main_v67 (F := Ideal) x0 x1 x2 x3 x4 x5 x6

/-- What a grid point writes is the reference's result at the block's place. -/
theorem point (c : Dev nD) (t : Fin cfg0.N) (P : S4x4096x12288.Idx → ℝ) (l : ℝ)
    (hP : ∀ i, m ((c : Thread nD τ).loc main_arg0) i = ((P i : ℝ) : EReal))
    (hl : lam (fun d => m ((c : Thread nD τ).loc main_arg2) (ix1 d)) (fun d => m ((c : Thread nD τ).loc main_arg3) (ix1 d))
      (fun d => m ((c : Thread nD τ).loc main_arg4) (ix1 d)) (fun d => m ((c : Thread nD τ).loc main_arg5) (ix1 d)) = ((l : ℝ) : EReal))
    (y : S1x512x256.Idx) (j : S4x4096x4096.Idx) (hj0 : (j 0).val = t.val / 64) (hj1 : (j 1).val = 512 * (t.val % 8) + (y 1).val)
    (hj2 : (j 2).val = 2048 + (t.val / 8 % 8 * 256 + (y 2).val)) :
    (dats m 0 c).after 8 t y = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) j := by
  have ht : t.val < 256 := lt_of_lt_of_eq t.isLt N_0
  obtain ⟨r, hr⟩ : ∃ r : Fin 512, r = y 1 := ⟨_, rfl⟩
  obtain ⟨e, he⟩ : ∃ e : Fin 256, e = y 2 := ⟨_, rfl⟩
  have hy : y = ix3 0 r e := funext fun a => Fin.ext (by
    match a with
    | ⟨0, _⟩ => exact Nat.lt_one_iff.mp (y 0).isLt
    | ⟨1, _⟩ => rw [hr]; rfl
    | ⟨2, _⟩ => rw [he]; rfl)
  have hr' : r.val = (y 1).val := by rw [hr]
  have he' : e.val = (y 2).val := by rw [he]
  have hj : j = ix3 ⟨t.val / 64, by omega⟩ ⟨512 * (t.val % 8) + r.val, by omega⟩
      ⟨2048 + ((⟨t.val / 8 % 8, by omega⟩ : Fin 8).val * 256 + e.val), by show 2048 + (t.val / 8 % 8 * 256 + e.val) < 4096; omega⟩ := funext fun a => Fin.ext (by
    match a with
    | ⟨0, _⟩ => exact hj0
    | ⟨1, _⟩ => show (j 1).val = 512 * (t.val % 8) + r.val; omega
    | ⟨2, _⟩ => show (j 2).val = 2048 + (t.val / 8 % 8 * 256 + e.val); omega)
  rw [hy, hj]
  refine Eq.trans ?_ (v67_hi _ _ _ _ _ _ _ _ _ _ _).symm
  rw [v62_at]
  rw [out_at m c t r e _ _ _
    (fun n hn => block_scores m c t ht P hP 0 (by norm_num) _ _ rfl ⟨t.val / 8 % 8 * 2, by omega⟩ (by show t.val / 8 % 8 * 2 * 128 = _; omega) r n hn)
    (fun n hn => block_scores m c t ht P hP 128 (by norm_num) _ _ rfl ⟨t.val / 8 % 8 * 2 + 1, by omega⟩ (by show (t.val / 8 % 8 * 2 + 1) * 128 = _; omega) r n hn)
    (fun n hn e => block_values m c t ht P hP n hn e)]
  refine congrArg₂ (fun f g => tail f g e) (funext fun i => ?_) (funext fun i => g_at m c t i)
  rw [v47_real _ P hP _ _ _ _ l hl, (idx t).2.2.2.2.2.2.2.2.2]
  have hl' : lam (fun i => iblk m c 0 t (ix2 0 i)) (fun i => iblk m c 1 t (ix2 0 i)) (fun i => iblk m c 2 t (ix2 0 i)) (fun i => iblk m c 3 t (ix2 0 i))
      = ((l : ℝ) : EReal) := by
    rw [← hl]
    have h := vec_at m c t
    simp only [h]
  rw [hl', ← EReal.coe_mul, ← EReal.coe_sub]
  rfl

/-- Before the call the output buffer holds the merged sections. -/
theorem entry_at (c : Dev nD) : V m c main_v5 = m ((c : Thread nD τ).loc main_arg1) := by
  unfold V; after_results; try rfl

/-- The output array is the reference's result: the grid writes the columns from 2048 on, and the merged sections stay before them. -/
theorem final [Cert.Pre_finite_inputs.Facts] (c : Dev nD)
    (hpre : (Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).1 = (fun _ => 1#1)
      ∧ (Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).2.1 = (fun _ => 1#1)
      ∧ (Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).2.2.1 = (fun _ => 1#1)
      ∧ (Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).2.2.2.1 = (fun _ => 1#1)
      ∧ (Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).2.2.2.2 = (fun _ => 1#1)) :
    (dats m 0 c).arrAt 8 cfg0.N = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  obtain ⟨⟨P, hP⟩, l, hl⟩ := reals_of_pre _ _ _ _ _ _ _ hpre
  have key : (dats m 0 c).arrAt 8 cfg0.N = fun i => if 8 * 256 ≤ (i 2 : ℕ) then G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) i else V m c main_v5 i := by
    refine (dats m 0 c).arrAt_eq_of_coversWhere 8 _ (fun β => 8 ≤ β 2) (by decide +kernel) (fun t hf y => ?_)
      (fun j => by blk_simp [Pipeline.Window.cell_apply]; omega)
    have ht : t.val < 256 := lt_of_lt_of_eq t.isLt N_0
    blk_simp
    refine point m c t P l hP hl y _ ?_ ?_ ?_ <;> blk_simp [idx t] <;> try omega
  rw [key]
  funext i
  obtain ⟨b, R, k, rfl⟩ : ∃ (b : Fin 4) (R : Fin 4096) (k : Fin 4096), i = ix3 b R k := ⟨i 0, i 1, i 2, funext fun a => by
    match a with
    | ⟨0, _⟩ => rfl
    | ⟨1, _⟩ => rfl
    | ⟨2, _⟩ => rfl⟩
  by_cases hi : 8 * 256 ≤ k.val
  · exact if_pos hi
  · refine (if_neg hi).trans ?_
    rw [entry_at]
    exact (v67_lo _ _ _ _ _ _ _ _ _ _ (by omega)).symm

end Cert.Hand.Diff

end
-- ==== Proof.UpValue.lean ====
module

public import proofs.«01_k».proof.Proof.Gen.UpIdeal.Value
public import proofs.«01_k».proof.Proof.Gen.UpRefIdeal.Read
public import Idealize.ShloMosaic.Lib.Pipeline.ValueKit
public import Idealize.ShloMosaic.Lib.Claim
public import Idealize.ShloMosaic.Lib.Pointwise

/-! The squared-ReLU projection: each block is computed in one iteration, from whole rows and columns. -/

@[expose] public section

set_option maxRecDepth 16384

noncomputable section

namespace Cert.Hand.Up

open Cert.UpIdeal Cert.UpIdeal.Gen Cert.UpIdeal.Value
open Idealize.ShloMosaic Idealize.ShloMosaic.TcCoe Idealize.SL.Sem

variable (m : (ℓ : Loc nD τ sig) → Buf (Elt Ideal) ℓ)

/-- The result of the squared-ReLU projection, as the reference computes it from its two arguments. -/
abbrev G (x : FVec Ideal S16384x4096 .bf16) (w : FVec Ideal S1x4096x16384 .f32) : FVec Ideal S16384x16384 .bf16 :=
  Cert.UpRefIdeal.Read.val_main_v5 (F := Ideal) x w

/-- The blocks that an iteration reads: the rows of its result block with all columns, the columns of its result block with all rows. -/
theorem idx : ∀ t : Fin cfg0.N, (win0_0.index t 0 = win0_2.index t 0 ∧ win0_0.index t 1 = 0)
      ∧ (win0_1.index t 0 = 0 ∧ win0_1.index t 1 = win0_2.index t 1) :=
  (by decide +kernel : ∀ t : Fin grid0.N, _)

/-- An iteration's result, entry by entry: the reference's entry at the place where the block lies. -/
theorem point (c : Dev nD) (t : Fin cfg0.N) (y : S1024x1024.Idx) : k0_pay1 (iblk m c 0 t) (iblk m c 1 t) y
    = G (m ((c : Thread nD τ).loc main_arg0)) (m ((c : Thread nD τ).loc main_arg1)) (((cfg0.win 2).blk t).view.emb y) := by
  pointwise [k0_pay1, G, Cert.UpRefIdeal.Read.val_main_v5, Cert.UpRefIdeal.Read.val_main_v4, Cert.UpRefIdeal.Read.val_main_v3,
    Cert.UpRefIdeal.Read.val_main_v2, Cert.UpRefIdeal.Read.val_main_v1, Cert.UpRefIdeal.Read.val_main_v0,
    Cert.UpRefIdeal.Read.val_main_call0_v0, Cert.UpRefIdeal.Read.val_main_call0_cst]
  blk_point [iblk, V, idx t]

/-- After all iterations the result array holds the reference's result. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Hand.Up

end
-- ==== Proof.DownValue.lean ====
module

public import proofs.«01_k».proof.Proof.Gen.DownIdeal.Value
public import proofs.«01_k».proof.Proof.Gen.DownRefIdeal.Read
public import Idealize.ShloMosaic.Lib.Pipeline.ReadBack
public import Idealize.ShloMosaic.Lib.Pipeline.ValueKit
public import Idealize.ShloMosaic.Lib.Claim
public import Idealize.ShloMosaic.Lib.Pointwise

@[expose] public section

set_option maxRecDepth 16384

noncomputable section

/-! The MLP's second projection: the output array of the kernel is the reference's result.

The kernel walks the contracted axis in 8 chunks of 2048 and keeps the running sum in a scratch buffer. The first chunk
sets it, the later ones add to it, and the last one adds the residual and writes the block out. -/

namespace Cert.Hand.Down

open Cert.DownIdeal Cert.DownIdeal.Gen Cert.DownIdeal.Value
open Idealize.ShloMosaic Idealize.ShloMosaic.TcCoe Idealize.SL.Sem

variable (m : (ℓ : Loc nD τ sig) → Buf (Elt Ideal) ℓ)

/-- The result as the reference computes it from its three arguments. -/
abbrev G (x : FVec Ideal S16384x16384 .bf16) (w : FVec Ideal S1x16384x4096 .f32) (r : FVec Ideal S16384x4096 .f32) :
    FVec Ideal S16384x4096 .f32 :=
  Cert.DownRefIdeal.Read.val_main_v3 (F := Ideal) x w r

/-- The reference's result at an index: the residual plus the product's entry. -/
theorem G_apply (x : FVec Ideal S16384x16384 .bf16) (w : FVec Ideal S1x16384x4096 .f32) (r : FVec Ideal S16384x4096 .f32)
    (j : S16384x4096.Idx) : G x w r j = r j + ∑ k : Fin 16384, x (ix2 (j 0) k) * w (ix3 0 k (j 1)) := by
  pointwise [G, Cert.DownRefIdeal.Read.val_main_v3, Cert.DownRefIdeal.Read.val_main_v2, Cert.DownRefIdeal.Read.val_main_v1,
    Cert.DownRefIdeal.Read.val_main_v0]

/-- The first chunk's product at an index. -/
theorem pay2_apply (x0 : Vec Ideal S1024x2048 .bf16) (x1 : Vec Ideal S2048x1024 .bf16) (j : S1024x1024.Idx) :
    k0_pay2 x0 x1 j = ∑ k : Fin 2048, x0 (ix2 (j 0) k) * x1 (ix2 k (j 1)) := by
  pointwise [k0_pay2, k0_pay1]

/-- A later chunk adds its product to the running sum. -/
theorem pay3_apply (x0 : Vec Ideal S1024x2048 .bf16) (x1 : Vec Ideal S2048x1024 .bf16) (acc : Vec Ideal S1024x1024 .f32)
    (j : S1024x1024.Idx) : k0_pay3 x0 x1 acc j = acc j + ∑ k : Fin 2048, x0 (ix2 (j 0) k) * x1 (ix2 k (j 1)) := by
  pointwise [k0_pay3, k0_pay1]

/-- The blocks of the four windows at a grid point, in terms of the output's block. -/
theorem idx : ∀ t : Fin cfg0.N, (win0_0.index t = ![t.val / 32, t.val % 8])
      ∧ (win0_1.index t = ![t.val % 8, t.val / 8 % 4]) ∧ (win0_2.index t = ![t.val / 32, t.val / 8 % 4])
      ∧ (win0_3.index t = ![t.val / 32, t.val / 8 % 4]) :=
  (by decide +kernel : ∀ t : Fin grid0.N, _)

/-- At the first point of a run the scratch buffer is set to the chunk's product. -/
theorem scratch_first (c : Dev nD) (t : Fin cfg0.N) (h : t.val % 8 = 0) (j : S1024x1024.Idx) :
    (outsAt0 m c t.val t.isLt).2 j = (0 : EReal) + k0_pay2 (iblk m c 0 t) (iblk m c 1 t) j := by
  rw [outsAt0_A m c t h (by omega) (by omega)]
  frame_out
  rw [zero_add]

/-- At a later point the chunk's product is added to what the point before left. -/
theorem scratch_step (c : Dev nD) (t : Fin cfg0.N) (h : ¬t.val % 8 = 0) (j : S1024x1024.Idx) :
    (outsAt0 m c t.val t.isLt).2 j
      = (outsAt0 m c (t.val - 1) (Nat.lt_of_le_of_lt (Nat.sub_le _ _) t.isLt)).2 j + k0_pay2 (iblk m c 0 t) (iblk m c 1 t) j := by
  by_cases h7 : t.val % 8 = 7
  · rw [outsAt0_C m c t h (by omega) h7]
    frame_out
    simp only [read_unread_whole]
    rw [pay3_apply, pay2_apply]
  · rw [outsAt0_B m c t h (by omega) h7]
    frame_out
    simp only [read_unread_whole]
    rw [pay3_apply, pay2_apply]

/-- At the last point of a run the output block is the residual's block plus the scratch buffer. -/
theorem out_last (c : Dev nD) (t : Fin cfg0.N) (h : t.val % 8 = 7) (j : S1024x1024.Idx) :
    (outsAt0 m c t.val t.isLt).1 j = (show EReal from iblk m c 2 t j) + (outsAt0 m c t.val t.isLt).2 j := by
  rw [outsAt0_C m c t (by omega) (by omega) h]
  frame_out
  simp only [read_unread_whole]
  pointwise [k0_pay4]
  exact add_comm _ _

/-- The output array after the run is the reference's result. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm := (flush0_3 t).mp hf
  blk_simp
  rw [after0_3, out_last m c t hm, G_apply]
  rw [Pipeline.eq_sum_fin_of_reset_step_apply_of_flush (fun n h => (outsAt0 m c n h).2) 8 (fun _ => (0 : EReal))
    (fun t j => k0_pay2 (iblk m c 0 t) (iblk m c 1 t) j)
    (fun t h j => scratch_first m c t h j) (fun t h j => scratch_step m c t h j) t hm y]
  rw [zero_add]
  simp only [pay2_apply]
  refine congrArg₂ (fun a b : EReal => a + b) ?_ ?_
  · blk_point [iblk, V, idx t]
  · refine Fin.sum_mul_add_congr fun s k hl => ?_
    blk_point [iblk, V, idx t, idx ⟨_, Pipeline.run_point_lt_of_flush t hm s⟩]

end Cert.Hand.Down

end
-- ==== Proof.OutValue.lean ====
module

public import proofs.«01_k».proof.Proof.Gen.OutIdeal.Value
public import proofs.«01_k».proof.Proof.Gen.OutRefIdeal.Read
public import Idealize.ShloMosaic.Lib.Pipeline.ReadBack
public import Idealize.ShloMosaic.Lib.Pipeline.ValueKit
public import Idealize.ShloMosaic.Lib.Claim
public import Idealize.ShloMosaic.Lib.Pointwise

@[expose] public section

set_option maxRecDepth 16384

noncomputable section

/-! The attention's output projection: the output array of the kernel is the reference's result.

The kernel walks the contracted axis in 2 chunks of 2048 and keeps the running sum in a scratch buffer. The first chunk
sets it, the later ones add to it, and the last one adds the residual and writes the block out. -/

namespace Cert.Hand.Out

open Cert.OutIdeal Cert.OutIdeal.Gen Cert.OutIdeal.Value
open Idealize.ShloMosaic Idealize.ShloMosaic.TcCoe Idealize.SL.Sem

variable (m : (ℓ : Loc nD τ sig) → Buf (Elt Ideal) ℓ)

/-- The result as the reference computes it from its three arguments. -/
abbrev G (x : FVec Ideal S16384x4096 .bf16) (w : FVec Ideal S1x4096x4096 .f32) (r : FVec Ideal S16384x4096 .f32) :
    FVec Ideal S16384x4096 .f32 :=
  Cert.OutRefIdeal.Read.val_main_v3 (F := Ideal) x w r

/-- The reference's result at an index: the residual plus the product's entry. -/
theorem G_apply (x : FVec Ideal S16384x4096 .bf16) (w : FVec Ideal S1x4096x4096 .f32) (r : FVec Ideal S16384x4096 .f32)
    (j : S16384x4096.Idx) : G x w r j = r j + ∑ k : Fin 4096, x (ix2 (j 0) k) * w (ix3 0 k (j 1)) := by
  pointwise [G, Cert.OutRefIdeal.Read.val_main_v3, Cert.OutRefIdeal.Read.val_main_v2, Cert.OutRefIdeal.Read.val_main_v1,
    Cert.OutRefIdeal.Read.val_main_v0]

/-- The first chunk's product at an index. -/
theorem pay2_apply (x0 : Vec Ideal S1024x2048 .bf16) (x1 : Vec Ideal S2048x1024 .bf16) (j : S1024x1024.Idx) :
    k0_pay2 x0 x1 j = ∑ k : Fin 2048, x0 (ix2 (j 0) k) * x1 (ix2 k (j 1)) := by
  pointwise [k0_pay2, k0_pay1]

/-- A later chunk adds its product to the running sum. -/
theorem pay3_apply (x0 : Vec Ideal S1024x2048 .bf16) (x1 : Vec Ideal S2048x1024 .bf16) (acc : Vec Ideal S1024x1024 .f32)
    (j : S1024x1024.Idx) : k0_pay3 x0 x1 acc j = acc j + ∑ k : Fin 2048, x0 (ix2 (j 0) k) * x1 (ix2 k (j 1)) := by
  pointwise [k0_pay3, k0_pay1]

/-- The blocks of the four windows at a grid point, in terms of the output's block. -/
theorem idx : ∀ t : Fin cfg0.N, (win0_0.index t = ![t.val / 8, t.val % 2])
      ∧ (win0_1.index t = ![t.val % 2, t.val / 2 % 4]) ∧ (win0_2.index t = ![t.val / 8, t.val / 2 % 4])
      ∧ (win0_3.index t = ![t.val / 8, t.val / 2 % 4]) :=
  (by decide +kernel : ∀ t : Fin grid0.N, _)

/-- At the first point of a run the scratch buffer is set to the chunk's product. -/
theorem scratch_first (c : Dev nD) (t : Fin cfg0.N) (h : t.val % 2 = 0) (j : S1024x1024.Idx) :
    (outsAt0 m c t.val t.isLt).2 j = (0 : EReal) + k0_pay2 (iblk m c 0 t) (iblk m c 1 t) j := by
  rw [outsAt0_A m c t h (by omega) (by omega)]
  frame_out
  rw [zero_add]

/-- At a later point the chunk's product is added to what the point before left. -/
theorem scratch_step (c : Dev nD) (t : Fin cfg0.N) (h : ¬t.val % 2 = 0) (j : S1024x1024.Idx) :
    (outsAt0 m c t.val t.isLt).2 j
      = (outsAt0 m c (t.val - 1) (Nat.lt_of_le_of_lt (Nat.sub_le _ _) t.isLt)).2 j + k0_pay2 (iblk m c 0 t) (iblk m c 1 t) j := by
  rw [outsAt0_B m c t h (by omega) (by omega)]
  frame_out
  simp only [read_unread_whole]
  rw [pay3_apply, pay2_apply]

/-- At the last point of a run the output block is the residual's block plus the scratch buffer. -/
theorem out_last (c : Dev nD) (t : Fin cfg0.N) (h : t.val % 2 = 1) (j : S1024x1024.Idx) :
    (outsAt0 m c t.val t.isLt).1 j = (show EReal from iblk m c 2 t j) + (outsAt0 m c t.val t.isLt).2 j := by
  rw [outsAt0_B m c t (by omega) (by omega) h]
  frame_out
  simp only [read_unread_whole]
  pointwise [k0_pay4]
  exact add_comm _ _

/-- The output array after the run is the reference's result. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm := (flush0_3 t).mp hf
  blk_simp
  rw [after0_3, out_last m c t hm, G_apply]
  rw [Pipeline.eq_sum_fin_of_reset_step_apply_of_flush (fun n h => (outsAt0 m c n h).2) 2 (fun _ => (0 : EReal))
    (fun t j => k0_pay2 (iblk m c 0 t) (iblk m c 1 t) j)
    (fun t h j => scratch_first m c t h j) (fun t h j => scratch_step m c t h j) t hm y]
  rw [zero_add]
  simp only [pay2_apply]
  refine congrArg₂ (fun a b : EReal => a + b) ?_ ?_
  · blk_point [iblk, V, idx t]
  · refine Fin.sum_mul_add_congr fun s k hl => ?_
    blk_point [iblk, V, idx t, idx ⟨_, Pipeline.run_point_lt_of_flush t hm s⟩]

end Cert.Hand.Out

end
-- ==== Proof.InpPay.lean ====
module

public import proofs.«01_k».proof.Proof.Gen.InpIdeal.Value
public import Idealize.ShloMosaic.Lib.Pipeline.ReadBack
public import Idealize.ShloMosaic.Lib.Pipeline.ValueKit
public import Idealize.ShloMosaic.Lib.Pointwise

@[expose] public section

set_option maxRecDepth 16384

noncomputable section

/-! The input projection's kernel: what each of its eight stores of a rotated head holds. -/

namespace Cert.Hand.Inp

open Cert.InpIdeal Cert.InpIdeal.Gen Cert.InpIdeal.Value
open Idealize.ShloMosaic Idealize.ShloMosaic.TcCoe Idealize.SL.Sem

/-- A head's lanes as the kernel turns them: the lanes by the first table, the lanes sixteen further by the second, the
lanes sixteen before by the third. -/
def turn (a c n s : Fin 128 → EReal) (l : Fin 128) : EReal :=
  a l * c l + a ⟨(l.val + 16) % 128, by omega⟩ * n l + a ⟨(l.val + 112) % 128, by omega⟩ * s l

/-- The first store holds the first head of the block, turned. -/
theorem head0_at (D : FVec Ideal S1024x1024 .f32) (C N S : Vec Ideal S1024x128 .f32) (r : Fin 1024) (l : Fin 128) :
    k0_pay7 (F := Ideal) D C N S (ix2 r l)
      = turn (fun l => D (ix2 r ⟨0 * 128 + l.val, by omega⟩)) (fun l => C (ix2 r l)) (fun l => N (ix2 r l)) (fun l => S (ix2 r l)) l := by
  unfold turn
  pointwise [k0_pay7, k0_pay4, k0_pay5, k0_pay6]
  simp only [show l.val + 128 - 112 = l.val + 16 by omega, show l.val + 128 - 16 = l.val + 112 by omega]

/-- The second store holds the second head of the block, turned. -/
theorem head1_at (D : FVec Ideal S1024x1024 .f32) (C N S : Vec Ideal S1024x128 .f32) (r : Fin 1024) (l : Fin 128) :
    k0_pay8 (F := Ideal) D C N S (ix2 r l)
      = turn (fun l => D (ix2 r ⟨1 * 128 + l.val, by omega⟩)) (fun l => C (ix2 r l)) (fun l => N (ix2 r l)) (fun l => S (ix2 r l)) l := by
  unfold turn
  pointwise [k0_pay8, k0_pay4, k0_pay5, k0_pay6]
  simp only [show l.val + 128 - 112 = l.val + 16 by omega, show l.val + 128 - 16 = l.val + 112 by omega]

/-- The third store holds the third head of the block, turned. -/
theorem head2_at (D : FVec Ideal S1024x1024 .f32) (C N S : Vec Ideal S1024x128 .f32) (r : Fin 1024) (l : Fin 128) :
    k0_pay9 (F := Ideal) D C N S (ix2 r l)
      = turn (fun l => D (ix2 r ⟨2 * 128 + l.val, by omega⟩)) (fun l => C (ix2 r l)) (fun l => N (ix2 r l)) (fun l => S (ix2 r l)) l := by
  unfold turn
  pointwise [k0_pay9, k0_pay4, k0_pay5, k0_pay6]
  simp only [show l.val + 128 - 112 = l.val + 16 by omega, show l.val + 128 - 16 = l.val + 112 by omega]

/-- The fourth store holds the fourth head of the block, turned. -/
theorem head3_at (D : FVec Ideal S1024x1024 .f32) (C N S : Vec Ideal S1024x128 .f32) (r : Fin 1024) (l : Fin 128) :
    k0_pay12 (F := Ideal) (k0_pay5 N) (k0_pay6 S) (k0_pay10 D) (k0_pay11 D C) 112#32 (ix2 r l)
      = turn (fun l => D (ix2 r ⟨3 * 128 + l.val, by omega⟩)) (fun l => C (ix2 r l)) (fun l => N (ix2 r l)) (fun l => S (ix2 r l)) l := by
  unfold turn
  pointwise [k0_pay12, k0_pay11, k0_pay10, k0_pay4, k0_pay5, k0_pay6]
  simp only [show l.val + 128 - 112 = l.val + 16 by omega, show l.val + 128 - 16 = l.val + 112 by omega]

/-- The fifth store holds the fifth head of the block, turned. -/
theorem head4_at (D : FVec Ideal S1024x1024 .f32) (C N S : Vec Ideal S1024x128 .f32) (r : Fin 1024) (l : Fin 128) :
    k0_pay13 (F := Ideal) D (k0_pay4 C) (k0_pay5 N) (k0_pay6 S) (ix2 r l)
      = turn (fun l => D (ix2 r ⟨4 * 128 + l.val, by omega⟩)) (fun l => C (ix2 r l)) (fun l => N (ix2 r l)) (fun l => S (ix2 r l)) l := by
  unfold turn
  pointwise [k0_pay13, k0_pay4, k0_pay5, k0_pay6]
  simp only [show l.val + 128 - 112 = l.val + 16 by omega, show l.val + 128 - 16 = l.val + 112 by omega]

/-- The sixth store holds the sixth head of the block, turned. -/
theorem head5_at (D : FVec Ideal S1024x1024 .f32) (C N S : Vec Ideal S1024x128 .f32) (r : Fin 1024) (l : Fin 128) :
    k0_pay14 (F := Ideal) D (k0_pay4 C) (k0_pay5 N) (k0_pay6 S) (ix2 r l)
      = turn (fun l => D (ix2 r ⟨5 * 128 + l.val, by omega⟩)) (fun l => C (ix2 r l)) (fun l => N (ix2 r l)) (fun l => S (ix2 r l)) l := by
  unfold turn
  pointwise [k0_pay14, k0_pay4, k0_pay5, k0_pay6]
  simp only [show l.val + 128 - 112 = l.val + 16 by omega, show l.val + 128 - 16 = l.val + 112 by omega]

/-- The seventh store holds the seventh head of the block, turned. -/
theorem head6_at (D : FVec Ideal S1024x1024 .f32) (C N S : Vec Ideal S1024x128 .f32) (r : Fin 1024) (l : Fin 128) :
    k0_pay15 (F := Ideal) D (k0_pay4 C) (k0_pay5 N) (k0_pay6 S) (ix2 r l)
      = turn (fun l => D (ix2 r ⟨6 * 128 + l.val, by omega⟩)) (fun l => C (ix2 r l)) (fun l => N (ix2 r l)) (fun l => S (ix2 r l)) l := by
  unfold turn
  pointwise [k0_pay15, k0_pay4, k0_pay5, k0_pay6]
  simp only [show l.val + 128 - 112 = l.val + 16 by omega, show l.val + 128 - 16 = l.val + 112 by omega]

/-- The eighth store holds the eighth head of the block, turned. -/
theorem head7_at (D : FVec Ideal S1024x1024 .f32) (C N S : Vec Ideal S1024x128 .f32) (r : Fin 1024) (l : Fin 128) :
    k0_pay2 (F := Ideal) (k0_pay5 N) (k0_pay6 S) (k0_pay16 D) (k0_pay17 D (k0_pay4 C)) 112#32 (ix2 r l)
      = turn (fun l => D (ix2 r ⟨7 * 128 + l.val, by omega⟩)) (fun l => C (ix2 r l)) (fun l => N (ix2 r l)) (fun l => S (ix2 r l)) l := by
  unfold turn
  pointwise [k0_pay2, k0_pay17, k0_pay16, k0_pay4, k0_pay5, k0_pay6]
  simp only [show l.val + 128 - 112 = l.val + 16 by omega, show l.val + 128 - 16 = l.val + 112 by omega]

/-- The block's product at one entry. -/
theorem prod_at (X : Vec Ideal S1024x4096 .bf16) (W : Vec Ideal S4096x1024 .bf16) (r j : Fin 1024) :
    k0_pay1 (F := Ideal) X W (ix2 r j) = ∑ k : Fin 4096, (X (ix2 r k) : EReal) * (W (ix2 k j) : EReal) := by
  pointwise [k0_pay1]

end Cert.Hand.Inp

end
-- ==== Proof.InpRef.lean ====
module

public import proofs.«01_k».proof.Proof.Gen.InpRefIdeal.Read
public import Idealize.ShloMosaic.Lib.Pipeline.ValueKit
public import Idealize.ShloMosaic.Lib.Pointwise

@[expose] public section

set_option maxRecDepth 16384

noncomputable section

/-! The input projection: what the reference's result is at one row and one column. -/

namespace Cert.Hand.Inp

open Cert.InpRefIdeal Cert.InpRefIdeal.Read
open Idealize.ShloMosaic Idealize.ShloMosaic.TcCoe Idealize.SL.Sem

/-- A head's lanes after the rotary embedding: the first sixteen and the next sixteen are turned into each other by the
angles' cosines and sines, the other lanes stay. -/
def rot (a : Fin 128 → EReal) (C S : Fin 16 → EReal) (l : Fin 128) : EReal :=
  if h : l.val < 32 then
    if h' : l.val < 16 then a l * C ⟨l.val, h'⟩ - a ⟨l.val + 16, by omega⟩ * S ⟨l.val, h'⟩
    else a l * C ⟨l.val - 16, by omega⟩ + a ⟨l.val - 16, by omega⟩ * S ⟨l.val - 16, by omega⟩
  else a l

variable (x : FVec Ideal S16384x4096 .bf16) (w : FVec Ideal S1x4096x12288 .f32)

/-- The first section after the rotary embedding. -/
theorem v51_at (b : Fin 4) (s : Fin 4096) (h : Fin 16) (l : Fin 128) :
    val_main_v51 (F := Ideal) x w (ix3 b s ⟨h.val * 128 + l.val, by omega⟩)
      = rot (fun l => val_main_v22 (F := Ideal) x w (ix3 b s ⟨h.val * 128 + l.val, by omega⟩)) (fun l => val_main_v16 (F := Ideal) (ix2 s l))
          (fun l => val_main_v17 (F := Ideal) (ix2 s l)) l := by
  unfold rot
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28]
  generalize val_main_v22 (F := Ideal) x w = A
  generalize val_main_v16 (F := Ideal) = C
  generalize val_main_v17 (F := Ideal) = S
  by_cases h1 : l.val < 32
  · by_cases h2 : l.val < 16
    · simp only [dif_pos h1, dif_pos h2, Nat.add_comm 16 l.val]
    · simp only [dif_pos h1, dif_neg h2, show 16 + (l.val - 16) = l.val by omega]
  · simp only [dif_neg h1, show 32 + (l.val - 32) = l.val by omega]

/-- The second section after the rotary embedding. -/
theorem v75_at (b : Fin 4) (s : Fin 4096) (h : Fin 16) (l : Fin 128) :
    val_main_v75 (F := Ideal) x w (ix3 b s ⟨h.val * 128 + l.val, by omega⟩)
      = rot (fun l => val_main_v23 (F := Ideal) x w (ix3 b s ⟨h.val * 128 + l.val, by omega⟩)) (fun l => val_main_v16 (F := Ideal) (ix2 s l))
          (fun l => val_main_v17 (F := Ideal) (ix2 s l)) l := by
  unfold rot
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52]
  generalize val_main_v23 (F := Ideal) x w = A
  generalize val_main_v16 (F := Ideal) = C
  generalize val_main_v17 (F := Ideal) = S
  by_cases h1 : l.val < 32
  · by_cases h2 : l.val < 16
    · simp only [dif_pos h1, dif_pos h2, Nat.add_comm 16 l.val]
    · simp only [dif_pos h1, dif_neg h2, show 16 + (l.val - 16) = l.val by omega]
  · simp only [dif_neg h1, show 32 + (l.val - 32) = l.val by omega]

/-- The fourth section after the rotary embedding. -/
theorem v99_at (b : Fin 4) (s : Fin 4096) (h : Fin 16) (l : Fin 128) :
    val_main_v99 (F := Ideal) x w (ix3 b s ⟨h.val * 128 + l.val, by omega⟩)
      = rot (fun l => val_main_v25 (F := Ideal) x w (ix3 b s ⟨h.val * 128 + l.val, by omega⟩)) (fun l => val_main_v16 (F := Ideal) (ix2 s l))
          (fun l => val_main_v17 (F := Ideal) (ix2 s l)) l := by
  unfold rot
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76]
  generalize val_main_v25 (F := Ideal) x w = A
  generalize val_main_v16 (F := Ideal) = C
  generalize val_main_v17 (F := Ideal) = S
  by_cases h1 : l.val < 32
  · by_cases h2 : l.val < 16
    · simp only [dif_pos h1, dif_pos h2, Nat.add_comm 16 l.val]
    · simp only [dif_pos h1, dif_neg h2, show 16 + (l.val - 16) = l.val by omega]
  · simp only [dif_neg h1, show 32 + (l.val - 32) = l.val by omega]

/-- The fifth section after the rotary embedding. -/
theorem v123_at (b : Fin 4) (s : Fin 4096) (h : Fin 16) (l : Fin 128) :
    val_main_v123 (F := Ideal) x w (ix3 b s ⟨h.val * 128 + l.val, by omega⟩)
      = rot (fun l => val_main_v26 (F := Ideal) x w (ix3 b s ⟨h.val * 128 + l.val, by omega⟩)) (fun l => val_main_v16 (F := Ideal) (ix2 s l))
          (fun l => val_main_v17 (F := Ideal) (ix2 s l)) l := by
  unfold rot
  pointwise [val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100]
  generalize val_main_v26 (F := Ideal) x w = A
  generalize val_main_v16 (F := Ideal) = C
  generalize val_main_v17 (F := Ideal) = S
  by_cases h1 : l.val < 32
  · by_cases h2 : l.val < 16
    · simp only [dif_pos h1, dif_pos h2, Nat.add_comm 16 l.val]
    · simp only [dif_pos h1, dif_neg h2, show 16 + (l.val - 16) = l.val by omega]
  · simp only [dif_neg h1, show 32 + (l.val - 32) = l.val by omega]

/-- One entry of the plain product of the rows with the weight. -/
def dotAt (x : FVec Ideal S16384x4096 .bf16) (w : FVec Ideal S1x4096x12288 .f32) (R : Fin 16384) (c : Fin 12288) : EReal :=
  ∑ k : Fin 4096, (x (ix2 R k) : EReal) * (w (ix3 0 k c) : EReal)

/-- The projection seen by batch and position. -/
theorem v21_at (b : Fin 4) (s : Fin 4096) (c : Fin 12288) :
    val_main_v21 (F := Ideal) x w (ix3 b s c) = dotAt x w ⟨b.val * 4096 + s.val, by omega⟩ c := by
  pointwise [val_main_v21, val_main_v20, val_main_v19, val_main_v18]
  rfl

/-- The result's rows are the batches' positions. -/
theorem v126_at (R : Fin 16384) (c : Fin 12288) :
    val_main_v126 (F := Ideal) x w (ix2 R c) = val_main_v124 (F := Ideal) x w (ix3 ⟨R.val / 4096, by omega⟩ ⟨R.val % 4096, by omega⟩ c) := by
  pointwise [val_main_v126, val_main_v125]

/-- The result at row `R` and column `c`: the two value sections hold the product, every other section its rotary embedding. -/
def res (R : Fin 16384) (c : Fin 12288) : EReal :=
  if c.val / 2048 = 2 ∨ c.val / 2048 = 5 then dotAt x w R c
  else rot (fun l => dotAt x w R ⟨c.val / 128 * 128 + l.val, by omega⟩) (fun l => val_main_v16 (F := Ideal) (ix2 ⟨R.val % 4096, by omega⟩ l))
    (fun l => val_main_v17 (F := Ideal) (ix2 ⟨R.val % 4096, by omega⟩ l)) ⟨c.val % 128, by omega⟩

/-- The projection at a row seen by its batch and position. -/
theorem v21_row (R : Fin 16384) (c : Fin 12288) :
    val_main_v21 (F := Ideal) x w (ix3 ⟨R.val / 4096, by omega⟩ ⟨R.val % 4096, by omega⟩ c) = dotAt x w R c := by
  rw [v21_at]
  exact congrArg (fun R => dotAt x w R c) (Fin.ext (by show R.val / 4096 * 4096 + R.val % 4096 = R.val; omega))

/-- The first section's part of the result. -/
theorem v51_res (R : Fin 16384) (c : Fin 12288) (j : Fin 2048) (hj : j.val + 0 = c.val) :
    val_main_v51 (F := Ideal) x w (ix3 ⟨R.val / 4096, by omega⟩ ⟨R.val % 4096, by omega⟩ j) = res x w R c := by
  have hv : ∀ i : Fin 2048, val_main_v22 (F := Ideal) x w (ix3 ⟨R.val / 4096, by omega⟩ ⟨R.val % 4096, by omega⟩ i)
      = dotAt x w R ⟨0 + i.val, by omega⟩ := fun i => by
    rw [← v21_row]
    pointwise [val_main_v22]
  have e : j = ⟨(⟨j.val / 128, by omega⟩ : Fin 16).val * 128 + (⟨j.val % 128, by omega⟩ : Fin 128).val, by
      show j.val / 128 * 128 + j.val % 128 < 2048; omega⟩ := Fin.ext (by show j.val = j.val / 128 * 128 + j.val % 128; omega)
  rw [e, v51_at, res, if_neg (by omega)]
  have e' : (⟨j.val % 128, by omega⟩ : Fin 128) = ⟨c.val % 128, by omega⟩ := Fin.ext (by show j.val % 128 = c.val % 128; omega)
  refine congrArg₂ (fun a l => rot a _ _ l) (funext fun l => (hv _).trans ?_) e'
  exact congrArg (dotAt x w R) (Fin.ext (by show 0 + (j.val / 128 * 128 + l.val) = c.val / 128 * 128 + l.val; omega))

/-- The second section's part of the result. -/
theorem v75_res (R : Fin 16384) (c : Fin 12288) (j : Fin 2048) (hj : j.val + 2048 = c.val) :
    val_main_v75 (F := Ideal) x w (ix3 ⟨R.val / 4096, by omega⟩ ⟨R.val % 4096, by omega⟩ j) = res x w R c := by
  have hv : ∀ i : Fin 2048, val_main_v23 (F := Ideal) x w (ix3 ⟨R.val / 4096, by omega⟩ ⟨R.val % 4096, by omega⟩ i)
      = dotAt x w R ⟨2048 + i.val, by omega⟩ := fun i => by
    rw [← v21_row]
    pointwise [val_main_v23]
  have e : j = ⟨(⟨j.val / 128, by omega⟩ : Fin 16).val * 128 + (⟨j.val % 128, by omega⟩ : Fin 128).val, by
      show j.val / 128 * 128 + j.val % 128 < 2048; omega⟩ := Fin.ext (by show j.val = j.val / 128 * 128 + j.val % 128; omega)
  rw [e, v75_at, res, if_neg (by omega)]
  have e' : (⟨j.val % 128, by omega⟩ : Fin 128) = ⟨c.val % 128, by omega⟩ := Fin.ext (by show j.val % 128 = c.val % 128; omega)
  refine congrArg₂ (fun a l => rot a _ _ l) (funext fun l => (hv _).trans ?_) e'
  exact congrArg (dotAt x w R) (Fin.ext (by show 2048 + (j.val / 128 * 128 + l.val) = c.val / 128 * 128 + l.val; omega))

/-- The fourth section's part of the result. -/
theorem v99_res (R : Fin 16384) (c : Fin 12288) (j : Fin 2048) (hj : j.val + 6144 = c.val) :
    val_main_v99 (F := Ideal) x w (ix3 ⟨R.val / 4096, by omega⟩ ⟨R.val % 4096, by omega⟩ j) = res x w R c := by
  have hv : ∀ i : Fin 2048, val_main_v25 (F := Ideal) x w (ix3 ⟨R.val / 4096, by omega⟩ ⟨R.val % 4096, by omega⟩ i)
      = dotAt x w R ⟨6144 + i.val, by omega⟩ := fun i => by
    rw [← v21_row]
    pointwise [val_main_v25]
  have e : j = ⟨(⟨j.val / 128, by omega⟩ : Fin 16).val * 128 + (⟨j.val % 128, by omega⟩ : Fin 128).val, by
      show j.val / 128 * 128 + j.val % 128 < 2048; omega⟩ := Fin.ext (by show j.val = j.val / 128 * 128 + j.val % 128; omega)
  rw [e, v99_at, res, if_neg (by omega)]
  have e' : (⟨j.val % 128, by omega⟩ : Fin 128) = ⟨c.val % 128, by omega⟩ := Fin.ext (by show j.val % 128 = c.val % 128; omega)
  refine congrArg₂ (fun a l => rot a _ _ l) (funext fun l => (hv _).trans ?_) e'
  exact congrArg (dotAt x w R) (Fin.ext (by show 6144 + (j.val / 128 * 128 + l.val) = c.val / 128 * 128 + l.val; omega))

/-- The fifth section's part of the result. -/
theorem v123_res (R : Fin 16384) (c : Fin 12288) (j : Fin 2048) (hj : j.val + 8192 = c.val) :
    val_main_v123 (F := Ideal) x w (ix3 ⟨R.val / 4096, by omega⟩ ⟨R.val % 4096, by omega⟩ j) = res x w R c := by
  have hv : ∀ i : Fin 2048, val_main_v26 (F := Ideal) x w (ix3 ⟨R.val / 4096, by omega⟩ ⟨R.val % 4096, by omega⟩ i)
      = dotAt x w R ⟨8192 + i.val, by omega⟩ := fun i => by
    rw [← v21_row]
    pointwise [val_main_v26]
  have e : j = ⟨(⟨j.val / 128, by omega⟩ : Fin 16).val * 128 + (⟨j.val % 128, by omega⟩ : Fin 128).val, by
      show j.val / 128 * 128 + j.val % 128 < 2048; omega⟩ := Fin.ext (by show j.val = j.val / 128 * 128 + j.val % 128; omega)
  rw [e, v123_at, res, if_neg (by omega)]
  have e' : (⟨j.val % 128, by omega⟩ : Fin 128) = ⟨c.val % 128, by omega⟩ := Fin.ext (by show j.val % 128 = c.val % 128; omega)
  refine congrArg₂ (fun a l => rot a _ _ l) (funext fun l => (hv _).trans ?_) e'
  exact congrArg (dotAt x w R) (Fin.ext (by show 8192 + (j.val / 128 * 128 + l.val) = c.val / 128 * 128 + l.val; omega))

/-- The six sections side by side. -/
theorem v124_at (b : Fin 4) (s : Fin 4096) (c : Fin 12288) :
    val_main_v124 (F := Ideal) x w (ix3 b s c)
      = if h : c.val < 2048 then val_main_v51 (F := Ideal) x w (ix3 b s ⟨c.val, h⟩)
        else if h : c.val - 2048 < 2048 then val_main_v75 (F := Ideal) x w (ix3 b s ⟨c.val - 2048, h⟩)
        else if h : c.val - 2048 - 2048 < 2048 then val_main_v21 (F := Ideal) x w (ix3 b s ⟨4096 + (c.val - 2048 - 2048), by omega⟩)
        else if h : c.val - 2048 - 2048 - 2048 < 2048 then val_main_v99 (F := Ideal) x w (ix3 b s ⟨c.val - 2048 - 2048 - 2048, h⟩)
        else if h : c.val - 2048 - 2048 - 2048 - 2048 < 2048 then
          val_main_v123 (F := Ideal) x w (ix3 b s ⟨c.val - 2048 - 2048 - 2048 - 2048, h⟩)
        else val_main_v21 (F := Ideal) x w (ix3 b s ⟨10240 + (c.val - 2048 - 2048 - 2048 - 2048 - 2048), by omega⟩) := by
  pointwise [val_main_v124, val_main_v24, val_main_v27]

/-- The reference's result at row `R` and column `c`. -/
theorem v126_res (R : Fin 16384) (c : Fin 12288) : val_main_v126 (F := Ideal) x w (ix2 R c) = res x w R c := by
  rw [v126_at, v124_at]
  by_cases h0 : c.val < 2048
  · rw [dif_pos h0]
    exact v51_res x w R c _ (by show c.val + 0 = c.val; omega)
  rw [dif_neg h0]
  by_cases h1 : c.val - 2048 < 2048
  · rw [dif_pos h1]
    exact v75_res x w R c _ (by show c.val - 2048 + 2048 = c.val; omega)
  rw [dif_neg h1]
  by_cases h2 : c.val - 2048 - 2048 < 2048
  · rw [dif_pos h2, res, if_pos (by omega), v21_row]
    exact congrArg (dotAt x w R) (Fin.ext (by show 4096 + (c.val - 2048 - 2048) = c.val; omega))
  rw [dif_neg h2]
  by_cases h3 : c.val - 2048 - 2048 - 2048 < 2048
  · rw [dif_pos h3]
    exact v99_res x w R c _ (by show c.val - 2048 - 2048 - 2048 + 6144 = c.val; omega)
  rw [dif_neg h3]
  by_cases h4 : c.val - 2048 - 2048 - 2048 - 2048 < 2048
  · rw [dif_pos h4]
    exact v123_res x w R c _ (by show c.val - 2048 - 2048 - 2048 - 2048 + 8192 = c.val; omega)
  rw [dif_neg h4, res, if_pos (by omega), v21_row]
  exact congrArg (dotAt x w R) (Fin.ext (by show 10240 + (c.val - 2048 - 2048 - 2048 - 2048 - 2048) = c.val; omega))

end Cert.Hand.Inp

end
-- ==== Proof.InpTab.lean ====
module

public import proofs.«01_k».proof.Proof.InpPay
public import proofs.«01_k».proof.Proof.InpRef
public import Idealize.ShloMosaic.Lib.Pipeline.ReadBack
public import Idealize.ShloMosaic.Lib.Pipeline.ValueKit
public import Idealize.ShloMosaic.Lib.Claim
public import Idealize.ShloMosaic.Lib.Pointwise

@[expose] public section

set_option maxRecDepth 16384

noncomputable section

/-! The input projection's kernel: its rotary tables, and what its input blocks hold. -/

namespace Cert.Hand.Inp

open Cert.InpIdeal Cert.InpIdeal.Gen Cert.InpIdeal.Value
open Idealize.ShloMosaic Idealize.ShloMosaic.TcCoe Idealize.SL.Sem

/-- Turning a head by the kernel's three padded tables is the rotary embedding: the ones and zeros of the padding leave the other lanes alone. -/
theorem turn_rot (a : Fin 128 → EReal) (C S : Fin 16 → EReal) (l : Fin 128) :
    turn a (fun l => if h : l.val < 16 then C ⟨l.val, h⟩ else if h : l.val - 16 < 16 then C ⟨l.val - 16, h⟩ else 1)
      (fun l => if h : l.val < 16 then -S ⟨l.val, h⟩ else 0)
      (fun l => if l.val < 16 then 0 else if h : l.val - 16 < 16 then S ⟨l.val - 16, h⟩ else 0) l = rot a C S l := by
  unfold turn rot
  by_cases h1 : l.val < 16
  · have h2 : l.val < 32 := by omega
    simp only [dif_pos h1, dif_pos h2, if_pos h1, mul_zero, add_zero, mul_neg, sub_eq_add_neg]
    simp only [show (l.val + 16) % 128 = l.val + 16 by omega]
  · by_cases h2 : l.val < 32
    · have h3 : l.val - 16 < 16 := by omega
      simp only [dif_neg h1, dif_pos h2, if_neg h1, dif_pos h3, mul_zero, add_zero]
      simp only [show (l.val + 112) % 128 = l.val - 16 by omega]
    · have h3 : ¬l.val - 16 < 16 := by omega
      simp only [dif_neg h1, dif_neg h2, if_neg h1, dif_neg h3, mul_zero, add_zero, mul_one]

variable (m : (ℓ : Loc nD τ sig) → Buf (Elt Ideal) ℓ)

/-- The kernel's cosines are the reference's. -/
theorem V_cos (c : Dev nD) : V m c main_v18 = Cert.InpRefIdeal.Read.val_main_v16 (F := Ideal) := by
  unfold V
  after_results
  rfl

/-- The kernel's sines are the reference's. -/
theorem V_sin (c : Dev nD) : V m c main_v19 = Cert.InpRefIdeal.Read.val_main_v17 (F := Ideal) := by
  unfold V
  after_results
  rfl

/-- The first table: the cosines twice, then ones. -/
theorem tab_cos (c : Dev nD) : V m c main_v21 = concatenate S4096x128 1 [⟨S4096x16, V m c main_v18⟩, ⟨S4096x16, V m c main_v18⟩,
      ⟨S4096x96, broadcastInDim S4096x96 ![] bcast_S_S4096x96 (constant (F := Ideal) S_ .f32 0x3F800000#32)⟩]
    concatenates_S4096x16_S4096x16_S4096x96_S4096x128_d1 := by
  unfold V
  after_results
  rfl

/-- The second table: the negated sines, then zeros. -/
theorem tab_neg (c : Dev nD) : V m c main_v24 = concatenate S4096x128 1 [⟨S4096x16, Host.negf (F := Ideal) (φ := .f32) (V m c main_v19)⟩,
      ⟨S4096x112, broadcastInDim S4096x112 ![] bcast_S_S4096x112 (constant (F := Ideal) S_ .f32 0x00000000#32)⟩]
    concatenates_S4096x16_S4096x112_S4096x128_d1 := by
  unfold V
  after_results

/-- The third table: zeros, the sines, then zeros. -/
theorem tab_sin (c : Dev nD) : V m c main_v27 = concatenate S4096x128 1
      [⟨S4096x16, broadcastInDim S4096x16 ![] bcast_S_S4096x16 (constant (F := Ideal) S_ .f32 0x00000000#32)⟩, ⟨S4096x16, V m c main_v19⟩,
      ⟨S4096x96, broadcastInDim S4096x96 ![] bcast_S_S4096x96 (constant (F := Ideal) S_ .f32 0x00000000#32)⟩]
    concatenates_S4096x16_S4096x16_S4096x96_S4096x128_d1 := by
  unfold V
  after_results
  rfl

/-- The bits of one. -/
theorem ofBits_one : (Ideal.ofBits FTy.f32 0x3F800000#32 : EReal) = 1 := by
  simp [Ideal.ofBits, Ideal.ieee]
  rw [← EReal.coe_mul]
  norm_num

/-- The bits of zero. -/
theorem ofBits_zero : (Ideal.ofBits FTy.f32 0x00000000#32 : EReal) = 0 := by
  simp [Ideal.ofBits, Ideal.ieee]

/-- The first table at an entry. -/
theorem cos_at (c : Dev nD) (s : Fin 4096) (l : Fin 128) : V m c main_v21 (ix2 s l)
    = if h : l.val < 16 then Cert.InpRefIdeal.Read.val_main_v16 (F := Ideal) (ix2 s ⟨l.val, h⟩)
      else if h : l.val - 16 < 16 then Cert.InpRefIdeal.Read.val_main_v16 (F := Ideal) (ix2 s ⟨l.val - 16, h⟩) else (1 : EReal) := by
  rw [tab_cos, V_cos, ← ofBits_one]
  generalize Cert.InpRefIdeal.Read.val_main_v16 (F := Ideal) = C
  pointwise []

/-- The second table at an entry. -/
theorem neg_at (c : Dev nD) (s : Fin 4096) (l : Fin 128) : V m c main_v24 (ix2 s l)
    = if h : l.val < 16 then -(Cert.InpRefIdeal.Read.val_main_v17 (F := Ideal) (ix2 s ⟨l.val, h⟩) : EReal) else (0 : EReal) := by
  rw [tab_neg, V_sin, ← ofBits_zero]
  generalize Cert.InpRefIdeal.Read.val_main_v17 (F := Ideal) = S
  pointwise []

/-- The third table at an entry. -/
theorem sin_at (c : Dev nD) (s : Fin 4096) (l : Fin 128) : V m c main_v27 (ix2 s l)
    = if l.val < 16 then (0 : EReal)
      else if h : l.val - 16 < 16 then Cert.InpRefIdeal.Read.val_main_v17 (F := Ideal) (ix2 s ⟨l.val - 16, h⟩) else (0 : EReal) := by
  rw [tab_sin, V_sin, ← ofBits_zero]
  generalize Cert.InpRefIdeal.Read.val_main_v17 (F := Ideal) = S
  pointwise []
  by_cases h : l.val < 16
  · rw [dif_pos h, if_pos h]
  · rw [dif_neg h, if_neg h]

/-- The blocks of a grid point: the row block `t / 12` against the column block `t % 12`; the tables' block is the row block's
place in its batch. -/
theorem idx : ∀ t : Fin cfg0.N, (win0_0.index t = ![t.val / 12, 0]) ∧ (win0_1.index t = ![0, t.val % 12])
      ∧ (win0_2.index t = ![t.val / 12 % 4, 0]) ∧ (win0_3.index t = ![t.val / 12 % 4, 0]) ∧ (win0_4.index t = ![t.val / 12 % 4, 0])
      ∧ (win0_5.index t = ![t.val / 12, t.val % 12]) :=
  (by decide +kernel : ∀ t : Fin grid0.N, _)

/-- The rows' block. -/
theorem row_at (c : Dev nD) (t : Fin cfg0.N) (ht : t.val < 192) (r : Fin 1024) (k : Fin 4096) :
    iblk m c 0 t (ix2 r k) = m ((c : Thread nD τ).loc main_arg0) (ix2 ⟨t.val / 12 * 1024 + r.val, by omega⟩ k) := by
  blk_point [iblk, V, idx t]

/-- The weight's block. -/
theorem weight_at (c : Dev nD) (t : Fin cfg0.N) (k : Fin 4096) (j : Fin 1024) :
    iblk m c 1 t (ix2 k j) = m ((c : Thread nD τ).loc main_arg1) (ix3 0 k ⟨t.val % 12 * 1024 + j.val, by omega⟩) := by
  blk_point [iblk, V, idx t]

/-- The first table's block. -/
theorem tab2_at (c : Dev nD) (t : Fin cfg0.N) (r : Fin 1024) (l : Fin 128) :
    iblk m c 2 t (ix2 r l) = V m c main_v21 (ix2 ⟨t.val / 12 % 4 * 1024 + r.val, by omega⟩ l) := by
  blk_point [iblk, idx t]

/-- The second table's block. -/
theorem tab3_at (c : Dev nD) (t : Fin cfg0.N) (r : Fin 1024) (l : Fin 128) :
    iblk m c 3 t (ix2 r l) = V m c main_v24 (ix2 ⟨t.val / 12 % 4 * 1024 + r.val, by omega⟩ l) := by
  blk_point [iblk, idx t]

/-- The third table's block. -/
theorem tab4_at (c : Dev nD) (t : Fin cfg0.N) (r : Fin 1024) (l : Fin 128) :
    iblk m c 4 t (ix2 r l) = V m c main_v27 (ix2 ⟨t.val / 12 % 4 * 1024 + r.val, by omega⟩ l) := by
  blk_point [iblk, idx t]

end Cert.Hand.Inp

end
-- ==== Proof.InpValue.lean ====
module

public import proofs.«01_k».proof.Proof.InpTab
public import Idealize.ShloMosaic.Lib.Pipeline.ReadBack
public import Idealize.ShloMosaic.Lib.Pipeline.ValueKit
public import Idealize.ShloMosaic.Lib.Pointwise

@[expose] public section

set_option maxRecDepth 16384

noncomputable section

/-! The input projection's kernel: the output array is the reference's result. -/

namespace Cert.Hand.Inp

open Cert.InpIdeal Cert.InpIdeal.Gen Cert.InpIdeal.Value
open Idealize.ShloMosaic Idealize.ShloMosaic.TcCoe Idealize.SL.Sem

variable (m : (ℓ : Loc nD τ sig) → Buf (Elt Ideal) ℓ)

/-- Lanes of head `i` of a block, `i` the head a column lies in. -/
theorem lane (D : FVec Ideal S1024x1024 .f32) (r J : Fin 1024) (i : ℕ) (hi : J.val / 128 = i) (hb : ∀ l : Fin 128, i * 128 + l.val < 1024)
    (a n s : Fin 128 → EReal) (l : Fin 128) :
    turn (fun l => D (ix2 r ⟨i * 128 + l.val, hb l⟩)) a n s l = turn (fun l => D (ix2 r ⟨J.val / 128 * 128 + l.val, by omega⟩)) a n s l := by
  subst hi
  rfl

/-- What a grid point of a rotated section writes: each head of the block's product, turned by the tables. -/
theorem outA (c : Dev nD) (t : Fin cfg0.N) (h0 : ¬(t.val % 6 = 4 ∨ t.val % 6 = 5)) (r J : Fin 1024) :
    outsAt0 m c t.val t.isLt (ix2 r J) = turn (fun l => k0_pay1 (F := Ideal) (iblk m c 0 t) (iblk m c 1 t) (ix2 r ⟨J.val / 128 * 128 + l.val, by omega⟩))
      (fun l => iblk m c 2 t (ix2 r l)) (fun l => iblk m c 3 t (ix2 r l)) (fun l => iblk m c 4 t (ix2 r l)) ⟨J.val % 128, by omega⟩ := by
  rw [outsAt0_A m c t h0 h0]
  frame_out
  canon_tiles j q
  case piece0 =>
    have q0' : r.val = (j 0).val := q0
    have q1' : J.val = 896 + (j 1).val := q1
    have e : j = ix2 r ⟨J.val % 128, by omega⟩ := funext fun a => Fin.ext (by
      match a with
      | ⟨0, _⟩ => exact q0'.symm
      | ⟨1, _⟩ => show (j 1).val = J.val % 128; omega)
    rw [e]
    exact (head7_at _ _ _ _ r _).trans (lane _ r J 7 (by omega) _ _ _ _ _)
  case piece1 =>
    have q0' : r.val = (j 0).val := q0
    have q1' : J.val = 768 + (j 1).val := q1
    have e : j = ix2 r ⟨J.val % 128, by omega⟩ := funext fun a => Fin.ext (by
      match a with
      | ⟨0, _⟩ => exact q0'.symm
      | ⟨1, _⟩ => show (j 1).val = J.val % 128; omega)
    rw [e]
    exact (head6_at _ _ _ _ r _).trans (lane _ r J 6 (by omega) _ _ _ _ _)
  case piece2 =>
    have q0' : r.val = (j 0).val := q0
    have q1' : J.val = 640 + (j 1).val := q1
    have e : j = ix2 r ⟨J.val % 128, by omega⟩ := funext fun a => Fin.ext (by
      match a with
      | ⟨0, _⟩ => exact q0'.symm
      | ⟨1, _⟩ => show (j 1).val = J.val % 128; omega)
    rw [e]
    exact (head5_at _ _ _ _ r _).trans (lane _ r J 5 (by omega) _ _ _ _ _)
  case piece3 =>
    have q0' : r.val = (j 0).val := q0
    have q1' : J.val = 512 + (j 1).val := q1
    have e : j = ix2 r ⟨J.val % 128, by omega⟩ := funext fun a => Fin.ext (by
      match a with
      | ⟨0, _⟩ => exact q0'.symm
      | ⟨1, _⟩ => show (j 1).val = J.val % 128; omega)
    rw [e]
    exact (head4_at _ _ _ _ r _).trans (lane _ r J 4 (by omega) _ _ _ _ _)
  case piece4 =>
    have q0' : r.val = (j 0).val := q0
    have q1' : J.val = 384 + (j 1).val := q1
    have e : j = ix2 r ⟨J.val % 128, by omega⟩ := funext fun a => Fin.ext (by
      match a with
      | ⟨0, _⟩ => exact q0'.symm
      | ⟨1, _⟩ => show (j 1).val = J.val % 128; omega)
    rw [e]
    exact (head3_at _ _ _ _ r _).trans (lane _ r J 3 (by omega) _ _ _ _ _)
  case piece5 =>
    have q0' : r.val = (j 0).val := q0
    have q1' : J.val = 256 + (j 1).val := q1
    have e : j = ix2 r ⟨J.val % 128, by omega⟩ := funext fun a => Fin.ext (by
      match a with
      | ⟨0, _⟩ => exact q0'.symm
      | ⟨1, _⟩ => show (j 1).val = J.val % 128; omega)
    rw [e]
    exact (head2_at _ _ _ _ r _).trans (lane _ r J 2 (by omega) _ _ _ _ _)
  case piece6 =>
    have q0' : r.val = (j 0).val := q0
    have q1' : J.val = 128 + (j 1).val := q1
    have e : j = ix2 r ⟨J.val % 128, by omega⟩ := funext fun a => Fin.ext (by
      match a with
      | ⟨0, _⟩ => exact q0'.symm
      | ⟨1, _⟩ => show (j 1).val = J.val % 128; omega)
    rw [e]
    exact (head1_at _ _ _ _ r _).trans (lane _ r J 1 (by omega) _ _ _ _ _)
  case piece7 =>
    have q0' : r.val = (j 0).val := q0
    have q1' : J.val = 0 + (j 1).val := q1.trans (Nat.zero_add _).symm
    have e : j = ix2 r ⟨J.val % 128, by omega⟩ := funext fun a => Fin.ext (by
      match a with
      | ⟨0, _⟩ => exact q0'.symm
      | ⟨1, _⟩ => show (j 1).val = J.val % 128; omega)
    rw [e]
    exact (head0_at _ _ _ _ r _).trans (lane _ r J 0 (by omega) _ _ _ _ _)

/-- What a grid point of a value section writes: the block's product. -/
theorem outB (c : Dev nD) (t : Fin cfg0.N) (h1 : t.val % 6 = 4 ∨ t.val % 6 = 5) (r J : Fin 1024) :
    outsAt0 m c t.val t.isLt (ix2 r J) = k0_pay1 (F := Ideal) (iblk m c 0 t) (iblk m c 1 t) (ix2 r J) := by
  rw [outsAt0_B m c t (not_not.mpr h1) h1]
  frame_out
  rfl

/-- The result as the reference computes it from its two arguments. -/
abbrev G (x : FVec Ideal S16384x4096 .bf16) (w : FVec Ideal S1x4096x12288 .f32) : FVec Ideal S16384x12288 .bf16 :=
  Cert.InpRefIdeal.Read.val_main_v126 (F := Ideal) x w

/-- The block's product is the product of the arrays at the block's place. -/
theorem prod_res (c : Dev nD) (t : Fin cfg0.N) (ht : t.val < 192) (r J : Fin 1024) :
    k0_pay1 (F := Ideal) (iblk m c 0 t) (iblk m c 1 t) (ix2 r J)
      = dotAt (m ((c : Thread nD τ).loc main_arg0)) (m ((c : Thread nD τ).loc main_arg1)) ⟨t.val / 12 * 1024 + r.val, by omega⟩
          ⟨t.val % 12 * 1024 + J.val, by omega⟩ := by
  refine (prod_at _ _ r J).trans (Finset.sum_congr rfl fun k _ => ?_)
  exact congrArg₂ (fun a b : EReal => a * b) (row_at m c t ht r k) (weight_at m c t k J)

/-- What a grid point writes is the reference's result at the block's place. -/
theorem point (c : Dev nD) (t : Fin cfg0.N) (ht : t.val < 192) (r J : Fin 1024) :
    outsAt0 m c t.val t.isLt (ix2 r J) = G (m ((c : Thread nD τ).loc main_arg0)) (m ((c : Thread nD τ).loc main_arg1))
      (ix2 ⟨t.val / 12 * 1024 + r.val, by omega⟩ ⟨t.val % 12 * 1024 + J.val, by omega⟩) := by
  refine Eq.trans ?_ (v126_res _ _ _ _).symm
  unfold res
  by_cases h : t.val % 6 = 4 ∨ t.val % 6 = 5
  · rw [if_pos (by show (t.val % 12 * 1024 + J.val) / 2048 = 2 ∨ (t.val % 12 * 1024 + J.val) / 2048 = 5; omega)]
    exact (outB m c t h r J).trans (prod_res m c t ht r J)
  · rw [if_neg (by show ¬((t.val % 12 * 1024 + J.val) / 2048 = 2 ∨ (t.val % 12 * 1024 + J.val) / 2048 = 5); omega), ← turn_rot]
    refine (outA m c t h r J).trans ?_
    have hs : (⟨t.val / 12 % 4 * 1024 + r.val, by omega⟩ : Fin 4096) = ⟨(t.val / 12 * 1024 + r.val) % 4096, by omega⟩ :=
      Fin.ext (by show t.val / 12 % 4 * 1024 + r.val = (t.val / 12 * 1024 + r.val) % 4096; omega)
    have hl : (⟨J.val % 128, by omega⟩ : Fin 128) = ⟨(t.val % 12 * 1024 + J.val) % 128, by omega⟩ :=
      Fin.ext (by show J.val % 128 = (t.val % 12 * 1024 + J.val) % 128; omega)
    have ea := funext fun l : Fin 128 => (prod_res m c t ht r ⟨J.val / 128 * 128 + l.val, by omega⟩).trans
      (congrArg (dotAt (m ((c : Thread nD τ).loc main_arg0)) (m ((c : Thread nD τ).loc main_arg1)) ⟨t.val / 12 * 1024 + r.val, by omega⟩)
        (a₂ := ⟨(t.val % 12 * 1024 + J.val) / 128 * 128 + l.val, by omega⟩)
        (Fin.ext (by show t.val % 12 * 1024 + (J.val / 128 * 128 + l.val) = (t.val % 12 * 1024 + J.val) / 128 * 128 + l.val; omega)))
    have ec := funext fun l : Fin 128 => (tab2_at m c t r l).trans ((congrArg (fun s => V m c main_v21 (ix2 s l)) hs).trans (cos_at m c _ l))
    have en := funext fun l : Fin 128 => (tab3_at m c t r l).trans ((congrArg (fun s => V m c main_v24 (ix2 s l)) hs).trans (neg_at m c _ l))
    have es := funext fun l : Fin 128 => (tab4_at m c t r l).trans ((congrArg (fun s => V m c main_v27 (ix2 s l)) hs).trans (sin_at m c _ l))
    refine Eq.trans (congrFun (congrFun (congrFun (congrFun (congrArg turn ea) _) _) _) _) ?_
    refine Eq.trans (congrFun (congrFun (congrFun (congrArg _ ec) _) _) _) ?_
    refine Eq.trans (congrFun (congrFun (congrArg _ en) _) _) ?_
    refine Eq.trans (congrFun (congrArg _ es) _) ?_
    exact congrArg _ hl

/-- The output array is the reference's result. -/
theorem final (c : Dev nD) : (dats m 0 c).arrAt 5 cfg0.N
    = G (m ((c : Thread nD τ).loc main_arg0)) (m ((c : Thread nD τ).loc main_arg1)) := by
  refine (dats m 0 c).arrAt_eq_of_covers 5 _ (by decide +kernel) fun t hf y => ?_
  have ht : t.val < 192 := lt_of_lt_of_eq t.isLt N_0
  blk_simp
  rw [after0_5]
  have hy : y = ix2 (y 0) (y 1) := funext fun a => by
    match a with
    | ⟨0, _⟩ => rfl
    | ⟨1, _⟩ => rfl
  refine Eq.trans (congrArg _ hy) ((point m c t ht (y 0) (y 1)).trans (congrArg _ ?_))
  refine funext fun a => Fin.ext ?_
  match a with
  | ⟨0, _⟩ => blk_simp [idx t]; rfl
  | ⟨1, _⟩ => blk_simp [idx t]; rfl

end Cert.Hand.Inp

end
-- ==== Proof.FinValue.lean ====
module

public import proofs.«01_k».proof.Proof.Gen.FinIdeal.Value
public import proofs.«01_k».proof.Proof.Gen.FinRefIdeal.Read
public import Idealize.ShloMosaic.Lib.Pipeline.ValueKit
public import Idealize.ShloMosaic.Lib.Claim
public import Idealize.ShloMosaic.Lib.Pointwise

@[expose] public section

set_option maxRecDepth 16384

noncomputable section

/-! The last normalization: the output array of the kernel is the reference's result. -/

namespace Cert.Hand.Fin

open Cert.FinIdeal Cert.FinIdeal.Gen Cert.FinIdeal.Value
open Idealize.ShloMosaic Idealize.ShloMosaic.TcCoe Idealize.SL.Sem

variable (m : (ℓ : Loc nD τ sig) → Buf (Elt Ideal) ℓ)

/-- The normalized array, as the reference computes it from its two arguments. -/
abbrev G (x : FVec Ideal S16384x4096 .f32) (g : FVec Ideal S4096 .f32) : FVec Ideal S16384x4096 .f32 :=
  Cert.FinRefIdeal.Read.val_main_v12 (F := Ideal) x g

/-- The input's block sits where the output's does; the scale's block is the whole scale. -/
theorem idx : ∀ t : Fin cfg0.N, (win0_0.index t = ![t.val, 0]) ∧ (win0_1.index t = ![0, 0]) ∧ (win0_2.index t = ![t.val, 0]) :=
  (by decide +kernel : ∀ t : Fin grid0.N, _)

/-- What the body stores at a place of its block is the reference's result at the array's place. -/
theorem point (c : Dev nD) (t : Fin cfg0.N) (y : S256x4096.Idx) : k0_pay1 (iblk m c 0 t) (iblk m c 1 t) y
    = G (m ((c : Thread nD τ).loc main_arg0)) (m ((c : Thread nD τ).loc main_arg1)) (((cfg0.win 2).blk t).view.emb y) := by
  open Cert.FinRefIdeal.Read in
  pointwise [k0_pay1, G, val_main_v12, val_main_v11, val_main_v10, val_main_v9, val_main_v8, val_main_v7, val_main_v6,
    val_main_cst_1, val_main_v5, val_main_v4, val_main_v3, val_main_cst_0, val_main_v2, val_main_v1, val_main_cst, val_main_v0]
  blk_point [iblk, V, idx t]

/-- The output array after the run is the reference's result. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Hand.Fin

end
-- ==== Proof.MixNormValue.lean ====
module

public import proofs.«01_k».proof.Proof.Gen.MixNormIdeal.Value
public import proofs.«01_k».proof.Proof.Gen.MixNormRefIdeal.Read
public import Idealize.ShloMosaic.Lib.Pipeline.ValueKit
public import Idealize.ShloMosaic.Lib.Claim
public import Idealize.ShloMosaic.Lib.Pointwise

@[expose] public section

set_option maxRecDepth 16384

noncomputable section

/-! For the norm before the mixers: the output array of the kernel is the reference's result. -/

namespace Cert.Hand.MixNorm

open Cert.MixNormIdeal Cert.MixNormIdeal.Gen Cert.MixNormIdeal.Value
open Idealize.ShloMosaic Idealize.ShloMosaic.TcCoe Idealize.SL.Sem

variable (m : (ℓ : Loc nD τ sig) → Buf (Elt Ideal) ℓ)

/-- The normalized array, as the reference computes it from its two arguments. -/
abbrev G (x : FVec Ideal S16384x4096 .f32) (g : FVec Ideal S1x4096 .f32) : FVec Ideal S16384x4096 .bf16 :=
  Cert.MixNormRefIdeal.Read.val_main_v14 (F := Ideal) x g

/-- The input's block sits where the output's does; the scale's block is the whole scale. -/
theorem idx : ∀ t : Fin cfg0.N, (win0_0.index t = ![t.val, 0]) ∧ (win0_1.index t = ![0, 0]) ∧ (win0_2.index t = ![t.val, 0]) :=
  (by decide +kernel : ∀ t : Fin grid0.N, _)

/-- What the body stores at a place of its block is the reference's result at the array's place. -/
theorem point (c : Dev nD) (t : Fin cfg0.N) (y : S256x4096.Idx) : k0_pay1 (iblk m c 0 t) (iblk m c 1 t) y
    = G (m ((c : Thread nD τ).loc main_arg0)) (m ((c : Thread nD τ).loc main_arg1)) (((cfg0.win 2).blk t).view.emb y) := by
  open Cert.MixNormRefIdeal.Read in
  pointwise [k0_pay1, G, val_main_v14, val_main_v13, val_main_v12, val_main_v11, val_main_v10, val_main_v9, val_main_v8, val_main_v7, val_main_v6,
    val_main_cst_1, val_main_v5, val_main_v4, val_main_v3, val_main_cst_0, val_main_v2, val_main_v1, val_main_cst, val_main_v0]
  blk_point [iblk, V, idx t]

/-- The output array after the run is the reference's result. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Hand.MixNorm

end
-- ==== Proof.MemNormValue.lean ====
module

public import proofs.«01_k».proof.Proof.Gen.MemNormIdeal.Value
public import proofs.«01_k».proof.Proof.Gen.MemNormRefIdeal.Read
public import Idealize.ShloMosaic.Lib.Pipeline.ValueKit
public import Idealize.ShloMosaic.Lib.Claim
public import Idealize.ShloMosaic.Lib.Pointwise

@[expose] public section

set_option maxRecDepth 16384

noncomputable section

/-! For the norm of the memory: the output array of the kernel is the reference's result. -/

namespace Cert.Hand.MemNorm

open Cert.MemNormIdeal Cert.MemNormIdeal.Gen Cert.MemNormIdeal.Value
open Idealize.ShloMosaic Idealize.ShloMosaic.TcCoe Idealize.SL.Sem

variable (m : (ℓ : Loc nD τ sig) → Buf (Elt Ideal) ℓ)

/-- The normalized array, as the reference computes it from its two arguments. -/
abbrev G (x : FVec Ideal S1024x4096 .f32) (g : FVec Ideal S1x4096 .f32) : FVec Ideal S1024x4096 .bf16 :=
  Cert.MemNormRefIdeal.Read.val_main_v14 (F := Ideal) x g

/-- The input's block sits where the output's does; the scale's block is the whole scale. -/
theorem idx : ∀ t : Fin cfg0.N, (win0_0.index t = ![t.val, 0]) ∧ (win0_1.index t = ![0, 0]) ∧ (win0_2.index t = ![t.val, 0]) :=
  (by decide +kernel : ∀ t : Fin grid0.N, _)

/-- What the body stores at a place of its block is the reference's result at the array's place. -/
theorem point (c : Dev nD) (t : Fin cfg0.N) (y : S256x4096.Idx) : k0_pay1 (iblk m c 0 t) (iblk m c 1 t) y
    = G (m ((c : Thread nD τ).loc main_arg0)) (m ((c : Thread nD τ).loc main_arg1)) (((cfg0.win 2).blk t).view.emb y) := by
  open Cert.MemNormRefIdeal.Read in
  pointwise [k0_pay1, G, val_main_v14, val_main_v13, val_main_v12, val_main_v11, val_main_v10, val_main_v9, val_main_v8, val_main_v7, val_main_v6,
    val_main_cst_1, val_main_v5, val_main_v4, val_main_v3, val_main_cst_0, val_main_v2, val_main_v1, val_main_cst, val_main_v0]
  blk_point [iblk, V, idx t]

/-- The output array after the run is the reference's result. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Hand.MemNorm

end
-- ==== Proof.MemKvValue.lean ====
module

public import proofs.«01_k».proof.Proof.Gen.MemKvIdeal.Value
public import proofs.«01_k».proof.Proof.Gen.MemKvRefIdeal.Read
public import Idealize.ShloMosaic.Lib.Pipeline.ValueKit
public import Idealize.ShloMosaic.Lib.Claim
public import Idealize.ShloMosaic.Lib.Pointwise

/-! The memory's keys and values: each block is computed in one iteration, from all rows and whole columns. -/

@[expose] public section

set_option maxRecDepth 16384

noncomputable section

namespace Cert.Hand.MemKv

open Cert.MemKvIdeal Cert.MemKvIdeal.Gen Cert.MemKvIdeal.Value
open Idealize.ShloMosaic Idealize.ShloMosaic.TcCoe Idealize.SL.Sem

variable (m : (ℓ : Loc nD τ sig) → Buf (Elt Ideal) ℓ)

/-- The memory's keys and values, as the reference computes them from its two arguments. -/
abbrev G (x : FVec Ideal S1024x4096 .bf16) (w : FVec Ideal S1x4096x1024 .f32) : FVec Ideal S1024x1024 .bf16 :=
  Cert.MemKvRefIdeal.Read.val_main_v3 (F := Ideal) x w

/-- The blocks that an iteration reads: the rows of its result block with all columns, the columns of its result block with all rows. -/
theorem idx : ∀ t : Fin cfg0.N, (win0_0.index t 0 = win0_2.index t 0 ∧ win0_0.index t 1 = 0)
      ∧ (win0_1.index t 0 = 0 ∧ win0_1.index t 1 = win0_2.index t 1) :=
  (by decide +kernel : ∀ t : Fin grid0.N, _)

/-- An iteration's result, entry by entry: the reference's entry at the place where the block lies. -/
theorem point (c : Dev nD) (t : Fin cfg0.N) (y : S1024x512.Idx) : k0_pay1 (iblk m c 0 t) (iblk m c 1 t) y
    = G (m ((c : Thread nD τ).loc main_arg0)) (m ((c : Thread nD τ).loc main_arg1)) (((cfg0.win 2).blk t).view.emb y) := by
  pointwise [k0_pay1, G, Cert.MemKvRefIdeal.Read.val_main_v3,
    Cert.MemKvRefIdeal.Read.val_main_v2, Cert.MemKvRefIdeal.Read.val_main_v1, Cert.MemKvRefIdeal.Read.val_main_v0]
  blk_point [iblk, V, idx t]

/-- After all iterations the result array holds the reference's result. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Hand.MemKv

end
-- ==== Proof.CrossMath.lean ====
module

public import proofs.«01_k».proof.Proof.DiffMath
public import Mathlib.Data.EReal.Operations

@[expose] public section

noncomputable section

/-! The arithmetic of the memory cross-attention over the extended reals.

The kernel divides the weighted values by the sum of the weights; the reference divides every weight. With real scores the
weights are real and positive, so both give the same, whatever the values are. -/

namespace Cert.Hand.Cross

open Idealize Idealize.ShloMosaic Cert.Hand.Diff

/-- A row's norm: the row over its root mean square, times the gain. -/
def rmsn (x g : Fin 4096 → EReal) (d : Fin 4096) : EReal :=
  x d * Ideal.rsqrt (Ideal.div (∑ i, x i * x i) (Ideal.ofBits FTy.f32 0x45800000#32) + Ideal.ofBits FTy.f32 0x3727C5AC#32) * g d

/-- A row's queries: the normed row times the weights. -/
def query (x g : Fin 4096 → EReal) (w : Fin 4096 → Fin 512 → EReal) (k : Fin 512) : EReal := ∑ d, rmsn x g d * w d k

/-- One head's result at one place as the kernel computes it. -/
def kout (q : Fin 128 → EReal) (K : Fin 256 → Fin 128 → EReal) (v : Fin 256 → EReal) : EReal :=
  Ideal.div (∑ n, Ideal.exp2 (((∑ d, q d * K n d) - Finset.univ.fold max (⊥ : EReal) fun i => ∑ d, q d * K i d) * cc) * v n)
    (∑ n, Ideal.exp2 (((∑ d, q d * K n d) - Finset.univ.fold max (⊥ : EReal) fun i => ∑ d, q d * K i d) * cc))

/-- One head's result at one place as the reference computes it. -/
def rout (q : Fin 128 → EReal) (K : Fin 256 → Fin 128 → EReal) (v : Fin 256 → EReal) : EReal :=
  ∑ n, Ideal.div
      (Ideal.exp ((∑ d, q d * K n d) * (kap : EReal) - Finset.univ.fold max (⊥ : EReal) fun i => (∑ d, q d * K i d) * (kap : EReal)))
      (∑ j, Ideal.exp ((∑ d, q d * K j d) * (kap : EReal) - Finset.univ.fold max (⊥ : EReal) fun i => (∑ d, q d * K i d) * (kap : EReal)))
    * v n

/-- A nonnegative real factor goes into a sum of extended reals. -/
theorem sum_mul_real {n : ℕ} (f : Fin n → EReal) (r : ℝ) (hr : 0 ≤ r) : (∑ k, f k) * (r : EReal) = ∑ k, f k * (r : EReal) := by
  induction n with
  | zero => simp
  | succ n ih =>
    rw [Fin.sum_univ_succ, Fin.sum_univ_succ, mul_comm, EReal.left_distrib_of_nonneg_of_ne_top (by exact_mod_cast hr) (EReal.coe_ne_top r),
      mul_comm, mul_comm _ (∑ i : Fin n, f i.succ), ih]

/-- With real queries and keys the kernel's head and the reference's agree. -/
theorem kout_eq (q : Fin 128 → EReal) (K : Fin 256 → Fin 128 → EReal) (v : Fin 256 → EReal) (q' : Fin 128 → ℝ) (K' : Fin 256 → Fin 128 → ℝ)
    (hq : ∀ d, q d = (q' d : EReal)) (hK : ∀ n d, K n d = (K' n d : EReal)) : kout q K v = rout q K v := by
  set s : Fin 256 → ℝ := fun n => ∑ d, q' d * K' n d with hs
  have h : ∀ n, (∑ d, q d * K n d) = (s n : EReal) := fun n => by
    rw [hs, ← sum_coe]
    exact Finset.sum_congr rfl fun d _ => by rw [hq, hK, EReal.coe_mul]
  unfold kout rout
  simp only [h]
  obtain ⟨M, hM⟩ := fold_max_real (fun i => (s i : EReal)) (fun k => EReal.coe_ne_top _) 0 (EReal.coe_ne_bot _)
  rw [hM]
  simp only [exp2_cc]
  have hz : ∀ k, (s k : EReal) * (kap : EReal) = if True then ((s k * kap : ℝ) : EReal) else ⊥ := fun k => by rw [if_pos trivial, EReal.coe_mul]
  have hw : ∀ n, Ideal.div
      (Ideal.exp ((s n : EReal) * (kap : EReal) - Finset.univ.fold max (⊥ : EReal) fun i => (s i : EReal) * (kap : EReal)))
      (∑ j, Ideal.exp ((s j : EReal) * (kap : EReal) - Finset.univ.fold max (⊥ : EReal) fun i => (s i : EReal) * (kap : EReal)))
      = ((Real.exp (s n * kap) / ∑ j, Real.exp (s j * kap) : ℝ) : EReal) := fun n => by
    have := softmax_row (fun k => (s k : EReal) * (kap : EReal)) (fun k => s k * kap) (fun _ => True) hz 0 trivial n
    simpa only [if_true] using this
  simp only [hw]
  rw [sum_coe]
  have hL : 0 < ∑ k, Real.exp (s k * kap - M * kap) := Finset.sum_pos (fun _ _ => Real.exp_pos _) Finset.univ_nonempty
  rw [Ideal.div, if_neg (by exact_mod_cast hL.ne'), ← EReal.coe_inv, sum_mul_real _ _ (inv_pos.2 hL).le]
  refine Finset.sum_congr rfl fun n _ => ?_
  rw [mul_right_comm, ← EReal.coe_mul]
  congr 2
  have e : ∀ k, Real.exp (s k * kap - M * kap) = Real.exp (-(M * kap)) * Real.exp (s k * kap) := fun k => by
    rw [← Real.exp_add]; congr 1; ring
  simp only [e]
  rw [← Finset.mul_sum]
  have hx := (Real.exp_pos (-(M * kap))).ne'
  have hS : (∑ k, Real.exp (s k * kap)) ≠ 0 := (Finset.sum_pos (fun _ _ => Real.exp_pos _) Finset.univ_nonempty).ne'
  field_simp

/-- The bits of the row's length. -/
theorem ofBits_len : (Ideal.ofBits FTy.f32 0x45800000#32 : EReal) = ((4096 : ℝ) : EReal) := by
  simp [Ideal.ofBits, Ideal.ieee]
  rw [← EReal.coe_mul]
  congr 1
  norm_num

/-- The bits of the small number under the root. -/
theorem ofBits_eps : (Ideal.ofBits FTy.f32 0x3727C5AC#32 : EReal) = ((10995116 / 1099511627776 : ℝ) : EReal) := by
  simp [Ideal.ofBits, Ideal.ieee]
  rw [← EReal.coe_mul]
  congr 1
  norm_num

/-- A real row with a real gain has a real norm. -/
theorem norm_real (x g : Fin 4096 → ℝ) : ∃ y : Fin 4096 → ℝ, ∀ d, rmsn (fun i => (x i : EReal)) (fun i => (g i : EReal)) d = (y d : EReal) := by
  have hs : (∑ i, (x i : EReal) * (x i : EReal)) = ((∑ i, x i * x i : ℝ) : EReal) := by
    rw [← sum_coe]; exact Finset.sum_congr rfl fun i _ => (EReal.coe_mul _ _).symm
  have h0 : 0 ≤ ∑ i, x i * x i := Finset.sum_nonneg fun i _ => mul_self_nonneg _
  have hp : 0 < (∑ i, x i * x i) * (1 / 4096) + 10995116 / 1099511627776 := by positivity
  refine ⟨fun d => x d * (Real.sqrt ((∑ i, x i * x i) * (1 / 4096) + 10995116 / 1099511627776))⁻¹ * g d, fun d => ?_⟩
  unfold rmsn
  rw [hs, ofBits_len, ofBits_eps, Ideal.div_coe (by norm_num), ← EReal.coe_mul, ← EReal.coe_add]
  have hr : Ideal.rsqrt (((∑ i, x i * x i) * (1 / 4096) + 10995116 / 1099511627776 : ℝ) : EReal)
      = (((Real.sqrt ((∑ i, x i * x i) * (1 / 4096) + 10995116 / 1099511627776))⁻¹ : ℝ) : EReal) := by
    show (if _ then _ else if _ then _ else _) = _
    rw [if_neg (not_lt.2 hp.le), if_neg hp.ne']
  rw [hr, ← EReal.coe_mul, ← EReal.coe_mul]

/-- Real arguments give real queries. -/
theorem query_real (x g : Fin 4096 → ℝ) (w : Fin 4096 → Fin 512 → ℝ) :
    ∃ q : Fin 512 → ℝ, ∀ k, query (fun i => (x i : EReal)) (fun i => (g i : EReal)) (fun d k => (w d k : EReal)) k = (q k : EReal) := by
  obtain ⟨y, hy⟩ := norm_real x g
  refine ⟨fun k => ∑ d, y d * w d k, fun k => ?_⟩
  unfold query
  rw [← sum_coe]
  exact Finset.sum_congr rfl fun d _ => by rw [hy, EReal.coe_mul]

/-- All heads of a row as the kernel computes them: place `k` of the row belongs to head `k / 128`. -/
def katt (q : Fin 512 → EReal) (kv : Fin 256 → Fin 1024 → EReal) (k : Fin 512) : EReal :=
  kout (fun d => q ⟨k.val / 128 * 128 + d.val, by omega⟩) (fun n d => kv n ⟨k.val / 128 * 128 + d.val, by omega⟩)
    (fun n => kv n ⟨512 + k.val, by omega⟩)

/-- All heads of a row as the reference computes them. -/
def ratt (q : Fin 512 → EReal) (kv : Fin 256 → Fin 1024 → EReal) (k : Fin 512) : EReal :=
  rout (fun d => q ⟨k.val / 128 * 128 + d.val, by omega⟩) (fun n d => kv n ⟨k.val / 128 * 128 + d.val, by omega⟩)
    (fun n => kv n ⟨512 + k.val, by omega⟩)

/-- With real queries and keys all heads agree. -/
theorem katt_eq (q : Fin 512 → EReal) (kv : Fin 256 → Fin 1024 → EReal) (q' : Fin 512 → ℝ) (hq : ∀ k, q k = (q' k : EReal))
    (hk : ∀ n (k : Fin 512), kv n ⟨k.val, by omega⟩ = (((kv n ⟨k.val, by omega⟩).toReal : ℝ) : EReal)) : katt q kv = ratt q kv :=
  funext fun k => kout_eq _ _ _ (fun d => q' ⟨k.val / 128 * 128 + d.val, by omega⟩) (fun n d => (kv n ⟨k.val / 128 * 128 + d.val, by omega⟩).toReal)
    (fun d => hq _) (fun n d => hk n ⟨k.val / 128 * 128 + d.val, by omega⟩)

/-- A row after the sublayer: the row plus the heads times the output weights. -/
def res (x : Fin 4096 → EReal) (a : Fin 512 → EReal) (w : Fin 512 → Fin 4096 → EReal) (c : Fin 4096) : EReal := x c + ∑ k, a k * w k c

end Cert.Hand.Cross

end
-- ==== Proof.CrossPay.lean ====
module

public import proofs.«01_k».proof.Proof.Gen.CrossIdeal.Skeleton
public import proofs.«01_k».proof.Proof.CrossMath
public import Idealize.ShloMosaic.Lib.Pipeline.ValueKit
public import Idealize.ShloMosaic.Lib.Pointwise

@[expose] public section

set_option maxRecDepth 16384

noncomputable section

/-! What an iteration of the memory cross-attention computes, read at an index. -/

namespace Cert.Hand.Cross

open Cert.CrossIdeal Cert.CrossIdeal.Gen
open Idealize.ShloMosaic Cert.Hand.Diff

/-- The scale's constant. -/
theorem named_c : (Named.named (F := Ideal) Cert.CrossIdeal.κ "c" 0x3E0293EE#32 : Ideal .f32) = cc :=
  IdealRules.named_const.ideal_named_scalar _ _ _ _ rfl

/-- The bits of minus infinity. -/
theorem ofBits_ninf : (Ideal.ofBits FTy.f32 0xFF800000#32 : EReal) = ⊥ := by
  simp [Ideal.ofBits, Ideal.ieee]

/-- The queries of a block of rows. -/
theorem pay3_apply (x : Vec Ideal S256x4096 .f32) (g : Vec Ideal S1x4096 .f32) (w : Vec Ideal S4096x512 .bf16) (j : S256x512.Idx) :
    k0_pay3 x g w j = query (fun d => x (ix2 (j 0) d)) (fun d => g (ix2 0 d)) (fun d k => w (ix2 d k)) (j 1) := by
  unfold query rmsn
  pointwise [k0_pay3]

/-- The first head. -/
theorem pay4_apply (x : Vec Ideal S256x4096 .f32) (g : Vec Ideal S1x4096 .f32) (w : Vec Ideal S4096x512 .bf16) (K v : Vec Ideal S256x128 .bf16)
    (j : S256x128.Idx) : k0_pay4 x g w K v j
      = kout (fun d => k0_pay3 x g w (ix2 (j 0) ⟨d.val, by omega⟩)) (fun n d => K (ix2 n d)) (fun n => v (ix2 n (j 1))) := by
  unfold kout k0_pay4
  generalize k0_pay3 x g w = q
  pointwise []
  simp only [named_c, ofBits_ninf]
  rfl

/-- The second head. -/
theorem pay5_apply (q : FVec Ideal S256x512 .bf16) (K v : Vec Ideal S256x128 .bf16)
    (j : S256x128.Idx) : k0_pay5 q K v j
      = kout (fun d => q (ix2 (j 0) ⟨128 + d.val, by omega⟩)) (fun n d => K (ix2 n d)) (fun n => v (ix2 n (j 1))) := by
  unfold kout k0_pay5
  pointwise []
  simp only [named_c, ofBits_ninf]
  rfl

/-- The third head. -/
theorem pay6_apply (q : FVec Ideal S256x512 .bf16) (K v : Vec Ideal S256x128 .bf16)
    (j : S256x128.Idx) : k0_pay6 q K v j
      = kout (fun d => q (ix2 (j 0) ⟨256 + d.val, by omega⟩)) (fun n d => K (ix2 n d)) (fun n => v (ix2 n (j 1))) := by
  unfold kout k0_pay6
  pointwise []
  simp only [named_c, ofBits_ninf]
  rfl

/-- The fourth head's queries. -/
theorem pay7_apply (q : FVec Ideal S256x512 .bf16) (j : S256x128.Idx) : k0_pay7 q j = q (ix2 (j 0) ⟨384 + (j 1).val, by have h : (j 1).val < 128 := (j 1).isLt; omega⟩) := by
  pointwise [k0_pay7]

/-- Four heads side by side. -/
def four (a0 a1 a2 a3 : Fin 128 → EReal) (k : Fin 512) : EReal :=
  if h : k.val < 128 then a0 ⟨k.val, h⟩ else if h : k.val - 128 < 128 then a1 ⟨k.val - 128, h⟩
  else if h : k.val - 128 - 128 < 128 then a2 ⟨k.val - 128 - 128, h⟩ else a3 ⟨k.val - 128 - 128 - 128, by omega⟩

/-- The rows plus the four heads side by side times the output weights. -/
theorem pay1_apply (x : Vec Ideal S256x4096 .f32) (a0 a1 a2 : FVec Ideal S256x128 .bf16) (K v : Vec Ideal S256x128 .bf16) (q : FVec Ideal S256x128 .bf16)
    (w : Vec Ideal S512x4096 .bf16) (j : S256x4096.Idx) :
    k0_pay1 x a0 a1 a2 K v q (constant S256x256 .f32 0x00000000#32) w j
      = res (fun c => x (ix2 (j 0) c)) (four (fun e => a0 (ix2 (j 0) e)) (fun e => a1 (ix2 (j 0) e)) (fun e => a2 (ix2 (j 0) e))
          (fun e => kout (fun d => q (ix2 (j 0) d)) (fun n d => K (ix2 n d)) (fun n => v (ix2 n e))))
          (fun k c => w (ix2 k c)) (j 1) := by
  unfold res
  generalize hf : four _ _ _ _ = f
  pointwise [k0_pay1]
  subst hf
  simp only [named_c, ofBits_ninf]
  rfl

/-- The rows after the sublayer, normed. -/
theorem pay2_apply (x : Vec Ideal S256x4096 .f32) (a0 a1 a2 : FVec Ideal S256x128 .bf16) (K v : Vec Ideal S256x128 .bf16) (q : FVec Ideal S256x128 .bf16)
    (z : FVec Ideal S256x256 .f32) (w : Vec Ideal S512x4096 .bf16) (g : Vec Ideal S1x4096 .f32) (j : S256x4096.Idx) :
    k0_pay2 x a0 a1 a2 K v q z w g j = rmsn (fun c => k0_pay1 x a0 a1 a2 K v q z w (ix2 (j 0) c)) (fun c => g (ix2 0 c)) (j 1) := by
  unfold rmsn k0_pay2
  generalize k0_pay1 x a0 a1 a2 K v q z w = y
  pointwise []

end Cert.Hand.Cross

end
-- ==== Proof.CrossRef.lean ====
module

public import proofs.«01_k».proof.Proof.Gen.CrossRefIdeal.Read
public import proofs.«01_k».proof.Proof.CrossMath
public import Idealize.ShloMosaic.Lib.Pipeline.ValueKit
public import Idealize.ShloMosaic.Lib.Pointwise

@[expose] public section

set_option maxRecDepth 16384

noncomputable section

/-! The reference's memory cross-attention, read at an index. -/

namespace Cert.Hand.CrossR

open Cert.CrossRefIdeal Cert.CrossRefIdeal.Read Cert.Hand.Cross
open Idealize.ShloMosaic Cert.Hand.Diff

/-- The bits of minus infinity. -/
theorem ofBits_ninf : (Ideal.ofBits FTy.f32 0xFF800000#32 : EReal) = ⊥ := by
  simp [Ideal.ofBits, Ideal.ieee]

/-- The scale's bits. -/
theorem ofBits_scale : (Ideal.ofBits FTy.f32 0x3DB504F3#32 : EReal) = ((kap : ℝ) : EReal) := by
  unfold kap
  simp [Ideal.ofBits, Ideal.ieee]
  rw [← EReal.coe_mul]
  congr 1
  norm_num

variable (x0 : (⟨S16384x4096, .f32⟩ : BufTy).Contents (Elt Ideal)) (x1 : (⟨S1024x1024, .bf16⟩ : BufTy).Contents (Elt Ideal))
  (x2 : (⟨S1x4096, .f32⟩ : BufTy).Contents (Elt Ideal)) (x3 : (⟨S1x4096x512, .f32⟩ : BufTy).Contents (Elt Ideal))
  (x4 : (⟨S1x512x4096, .f32⟩ : BufTy).Contents (Elt Ideal)) (x5 : (⟨S1x4096, .f32⟩ : BufTy).Contents (Elt Ideal))

/-- The queries of a row. -/
theorem v15_at (R : Fin 16384) (k : Fin 512) : val_main_v15 (F := Ideal) x0 x2 x3 (ix2 R k)
    = query (fun d => x0 (ix2 R d)) (fun d => x2 (ix2 0 d)) (fun d k => x3 (ix3 0 d k)) k := by
  unfold query rmsn
  pointwise [val_main_v15, val_main_v14, val_main_v13, val_main_v12, val_main_v11, val_main_v10, val_main_v9, val_main_v8, val_main_v7,
    val_main_v6, val_main_cst_1, val_main_v5, val_main_v4, val_main_v3, val_main_cst_0, val_main_v2, val_main_v1, val_main_cst, val_main_v0]

/-- The queries of a head. -/
theorem v18_at (b h : Fin 4) (r : Fin 4096) (d : Fin 128) : val_main_v18 (F := Ideal) x0 x2 x3 (ix4 b h r d)
    = val_main_v15 (F := Ideal) x0 x2 x3 (ix2 ⟨b.val * 4096 + r.val, by omega⟩ ⟨h.val * 128 + d.val, by omega⟩) := by
  unfold val_main_v18 val_main_v17 val_main_v16
  generalize val_main_v15 (F := Ideal) x0 x2 x3 = q
  pointwise []

/-- The keys of a head. -/
theorem v23_at (b h : Fin 4) (n : Fin 256) (d : Fin 128) : val_main_v23 (F := Ideal) x1 (ix4 b h n d)
    = x1 (ix2 ⟨b.val * 256 + n.val, by omega⟩ ⟨h.val * 128 + d.val, by omega⟩) := by
  pointwise [val_main_v23, val_main_v22, val_main_v21, val_main_v20, val_main_v19]

/-- The values of a head. -/
theorem v26_at (b h : Fin 4) (n : Fin 256) (d : Fin 128) : val_main_v26 (F := Ideal) x1 (ix4 b h n d)
    = x1 (ix2 ⟨b.val * 256 + n.val, by omega⟩ ⟨512 + h.val * 128 + d.val, by omega⟩) := by
  pointwise [val_main_v26, val_main_v25, val_main_v24, val_main_v20, val_main_v19]

/-- The scaled scores. -/
theorem v29_at (b h : Fin 4) (r : Fin 4096) (n : Fin 256) : val_main_v29 (F := Ideal) x0 x1 x2 x3 (ix4 b h r n)
    = (∑ d : Fin 128, val_main_v18 (F := Ideal) x0 x2 x3 (ix4 b h r d) * val_main_v23 (F := Ideal) x1 (ix4 b h n d)) * ((kap : ℝ) : EReal) := by
  unfold val_main_v29 val_main_v27
  generalize val_main_v18 (F := Ideal) x0 x2 x3 = q
  generalize val_main_v23 (F := Ideal) x1 = kk
  pointwise [val_main_v28, val_main_cst_2]
  rw [ofBits_scale]

/-- The greatest score of a row. -/
theorem v30_at (b h : Fin 4) (r : Fin 4096) : val_main_v30 (F := Ideal) x0 x1 x2 x3 (ix3 b h r)
    = Finset.univ.fold max (⊥ : EReal) fun n : Fin 256 => val_main_v29 (F := Ideal) x0 x1 x2 x3 (ix4 b h r n) := by
  unfold val_main_v30
  generalize val_main_v29 (F := Ideal) x0 x1 x2 x3 = z
  pointwise [val_main_cst_3]
  rw [ofBits_ninf]

/-- Its maximum with minus infinity is the same. -/
theorem v32_at (b h : Fin 4) (r : Fin 4096) : val_main_v32 (F := Ideal) x0 x1 x2 x3 (ix3 b h r)
    = Finset.univ.fold max (⊥ : EReal) fun n : Fin 256 => val_main_v29 (F := Ideal) x0 x1 x2 x3 (ix4 b h r n) := by
  rw [← v30_at, val_main_v32_apply, val_main_v31_apply, val_main_cst_4_apply]
  generalize val_main_v30 (F := Ideal) x0 x1 x2 x3 = z
  show max (Ideal.ofBits FTy.f32 0xFF800000#32 : EReal) _ = _
  rw [ofBits_ninf]
  exact bot_sup_eq _

/-- The exponentials of a row, shifted by its greatest score. -/
theorem v36_at (b h : Fin 4) (r : Fin 4096) (n : Fin 256) : val_main_v36 (F := Ideal) x0 x1 x2 x3 (ix4 b h r n)
    = Ideal.exp (val_main_v29 (F := Ideal) x0 x1 x2 x3 (ix4 b h r n) - val_main_v32 (F := Ideal) x0 x1 x2 x3 (ix3 b h r)) := by
  unfold val_main_v36 val_main_v35 val_main_v34 val_main_v33
  generalize val_main_v29 (F := Ideal) x0 x1 x2 x3 = z
  generalize val_main_v32 (F := Ideal) x0 x1 x2 x3 = z'
  pointwise []

/-- A head's result: the values weighted by the softmax. -/
theorem v41_at (b h : Fin 4) (r : Fin 4096) (e : Fin 128) : val_main_v41 (F := Ideal) x0 x1 x2 x3 (ix4 b h r e)
    = ∑ n : Fin 256, Ideal.div (val_main_v36 (F := Ideal) x0 x1 x2 x3 (ix4 b h r n)) (∑ j : Fin 256, val_main_v36 (F := Ideal) x0 x1 x2 x3 (ix4 b h r j))
        * val_main_v26 (F := Ideal) x1 (ix4 b h n e) := by
  unfold val_main_v41 val_main_v40 val_main_v39 val_main_v38 val_main_v37
  generalize val_main_v36 (F := Ideal) x0 x1 x2 x3 = z
  generalize val_main_v26 (F := Ideal) x1 = v
  pointwise [val_main_cst_5]

/-- The same in terms of the queries and of the memory's keys and values. -/
theorem v41_rout (b h : Fin 4) (r : Fin 4096) (e : Fin 128) : val_main_v41 (F := Ideal) x0 x1 x2 x3 (ix4 b h r e)
    = rout (fun d => val_main_v15 (F := Ideal) x0 x2 x3 (ix2 ⟨b.val * 4096 + r.val, by omega⟩ ⟨h.val * 128 + d.val, by omega⟩))
        (fun n d => x1 (ix2 ⟨b.val * 256 + n.val, by omega⟩ ⟨h.val * 128 + d.val, by omega⟩))
        (fun n => x1 (ix2 ⟨b.val * 256 + n.val, by omega⟩ ⟨512 + h.val * 128 + e.val, by omega⟩)) := by
  unfold rout
  simp only [v41_at, v36_at, v32_at, v29_at, v18_at, v23_at, v26_at]

/-- The heads side by side. -/
theorem v44_at (R : Fin 16384) (k : Fin 512) : val_main_v44 (F := Ideal) x0 x1 x2 x3 (ix2 R k)
    = val_main_v41 (F := Ideal) x0 x1 x2 x3 (ix4 ⟨R.val / 4096, by omega⟩ ⟨k.val / 128, by omega⟩ ⟨R.val % 4096, by omega⟩ ⟨k.val % 128, by omega⟩) := by
  unfold val_main_v44 val_main_v43 val_main_v42
  generalize val_main_v41 (F := Ideal) x0 x1 x2 x3 = z
  pointwise []

/-- All heads of a row. -/
theorem v44_ratt (R : Fin 16384) (k : Fin 512) : val_main_v44 (F := Ideal) x0 x1 x2 x3 (ix2 R k)
    = ratt (query (fun d => x0 (ix2 R d)) (fun d => x2 (ix2 0 d)) (fun d k => x3 (ix3 0 d k)))
        (fun n i => x1 (ix2 ⟨R.val / 4096 * 256 + n.val, by omega⟩ i)) k := by
  rw [v44_at, v41_rout]
  unfold ratt
  have hR : (⟨R.val / 4096 * 4096 + R.val % 4096, by omega⟩ : Fin 16384) = R := Fin.ext (by show R.val / 4096 * 4096 + R.val % 4096 = R.val; omega)
  have hk : (⟨512 + k.val / 128 * 128 + k.val % 128, by omega⟩ : Fin 1024) = ⟨512 + k.val, by omega⟩ :=
    Fin.ext (by show 512 + k.val / 128 * 128 + k.val % 128 = 512 + k.val; omega)
  simp only [hR, hk, v15_at]

/-- The first result at an index. -/
theorem v47_at (R : Fin 16384) (c : Fin 4096) : val_main_v47 (F := Ideal) x0 x1 x2 x3 x4 (ix2 R c)
    = res (fun c => x0 (ix2 R c)) (fun k => val_main_v44 (F := Ideal) x0 x1 x2 x3 (ix2 R k)) (fun k c => x4 (ix3 0 k c)) c := by
  unfold val_main_v47 val_main_v46 res
  generalize val_main_v44 (F := Ideal) x0 x1 x2 x3 = a
  pointwise [val_main_v45]

/-- The second result at an index. -/
theorem v62_at (R : Fin 16384) (c : Fin 4096) : val_main_v62 (F := Ideal) x0 x1 x2 x3 x4 x5 (ix2 R c)
    = rmsn (fun c => val_main_v47 (F := Ideal) x0 x1 x2 x3 x4 (ix2 R c)) (fun c => x5 (ix2 0 c)) c := by
  unfold val_main_v62 val_main_v61 val_main_v58 val_main_v57 val_main_v56 val_main_v55 val_main_v53 val_main_v51 val_main_v50 val_main_v49 rmsn
  generalize val_main_v47 (F := Ideal) x0 x1 x2 x3 x4 = y
  pointwise [val_main_v60, val_main_v59, val_main_v54, val_main_cst_8, val_main_v52, val_main_cst_7, val_main_cst_6, val_main_v48]

end Cert.Hand.CrossR

end
-- ==== Proof.CrossValue.lean ====
module

public import proofs.«01_k».proof.Proof.Gen.CrossIdeal.Value
public import proofs.«01_k».proof.Proof.CrossPay
public import proofs.«01_k».proof.Proof.CrossRef
public import proofs.«01_k».proof.Proof.DiffFinite
public import proofs.«01_k».proof.Pre_finite_scores
public import Idealize.ShloMosaic.Lib.Pipeline.ValueKit
public import Idealize.ShloMosaic.Lib.Claim
public import Idealize.ShloMosaic.Lib.Pointwise

@[expose] public section

set_option maxRecDepth 16384

noncomputable section

/-! The memory cross-attention: each iteration computes 256 rows of both results, which are the reference's. -/

namespace Cert.Hand.Cross

open Cert.CrossIdeal Cert.CrossIdeal.Gen Cert.CrossIdeal.Value
open Idealize.ShloMosaic Idealize.ShloMosaic.TcCoe Idealize.SL.Sem

/-- Heads of equal queries, keys and values are equal. -/
theorem kout_congr {q q' : Fin 128 → EReal} {K K' : Fin 256 → Fin 128 → EReal} {v v' : Fin 256 → EReal} (hq : ∀ d, q d = q' d)
    (hK : ∀ n d, K n d = K' n d) (hv : ∀ n, v n = v' n) : kout q K v = kout q' K' v' := by
  rw [funext hq, funext fun n => funext (hK n), funext hv]

/-- Four heads side by side, each from its own columns of the queries, keys and values, are all heads of a row. -/
theorem four_katt (Q : Fin 512 → EReal) (kv : Fin 256 → Fin 1024 → EReal) :
    four (fun e => kout (fun d => Q ⟨d.val, by omega⟩) (fun n d => kv n ⟨d.val, by omega⟩) (fun n => kv n ⟨512 + e.val, by omega⟩))
      (fun e => kout (fun d => Q ⟨128 + d.val, by omega⟩) (fun n d => kv n ⟨128 + d.val, by omega⟩) (fun n => kv n ⟨640 + e.val, by omega⟩))
      (fun e => kout (fun d => Q ⟨256 + d.val, by omega⟩) (fun n d => kv n ⟨256 + d.val, by omega⟩) (fun n => kv n ⟨768 + e.val, by omega⟩))
      (fun e => kout (fun d => Q ⟨384 + d.val, by omega⟩) (fun n d => kv n ⟨384 + d.val, by omega⟩) (fun n => kv n ⟨896 + e.val, by omega⟩))
      = katt Q kv := by
  funext k
  have hk := k.isLt
  unfold four katt
  split
  · exact kout_congr (fun d => congrArg Q (Fin.ext (by show d.val = k.val / 128 * 128 + d.val; omega)))
      (fun n d => congrArg (kv n) (Fin.ext (by show d.val = k.val / 128 * 128 + d.val; omega)))
      (fun n => congrArg (kv n) (Fin.ext (by show 512 + k.val = 512 + k.val; omega)))
  split
  · exact kout_congr (fun d => congrArg Q (Fin.ext (by show 128 + d.val = k.val / 128 * 128 + d.val; omega)))
      (fun n d => congrArg (kv n) (Fin.ext (by show 128 + d.val = k.val / 128 * 128 + d.val; omega)))
      (fun n => congrArg (kv n) (Fin.ext (by show 640 + (k.val - 128) = 512 + k.val; omega)))
  split
  · exact kout_congr (fun d => congrArg Q (Fin.ext (by show 256 + d.val = k.val / 128 * 128 + d.val; omega)))
      (fun n d => congrArg (kv n) (Fin.ext (by show 256 + d.val = k.val / 128 * 128 + d.val; omega)))
      (fun n => congrArg (kv n) (Fin.ext (by show 768 + (k.val - 128 - 128) = 512 + k.val; omega)))
  · exact kout_congr (fun d => congrArg Q (Fin.ext (by show 384 + d.val = k.val / 128 * 128 + d.val; omega)))
      (fun n d => congrArg (kv n) (Fin.ext (by show 384 + d.val = k.val / 128 * 128 + d.val; omega)))
      (fun n => congrArg (kv n) (Fin.ext (by show 896 + (k.val - 128 - 128 - 128) = 512 + k.val; omega)))

/-- What an iteration stores in the first result, from the columns of the keys and values that it loads. -/
theorem core (x : Vec Ideal S256x4096 .f32) (g : Vec Ideal S1x4096 .f32) (w : Vec Ideal S4096x512 .bf16) (k0 v0 k1 v1 k2 v2 k3 v3 : Vec Ideal S256x128 .bf16)
    (wo : Vec Ideal S512x4096 .bf16) (kv : Vec Ideal S256x1024 .bf16)
    (hk0 : ∀ n d, k0 (ix2 n d) = kv (ix2 n ⟨d.val, by omega⟩)) (hv0 : ∀ n d, v0 (ix2 n d) = kv (ix2 n ⟨512 + d.val, by omega⟩))
    (hk1 : ∀ n d, k1 (ix2 n d) = kv (ix2 n ⟨128 + d.val, by omega⟩)) (hv1 : ∀ n d, v1 (ix2 n d) = kv (ix2 n ⟨640 + d.val, by omega⟩))
    (hk2 : ∀ n d, k2 (ix2 n d) = kv (ix2 n ⟨256 + d.val, by omega⟩)) (hv2 : ∀ n d, v2 (ix2 n d) = kv (ix2 n ⟨768 + d.val, by omega⟩))
    (hk3 : ∀ n d, k3 (ix2 n d) = kv (ix2 n ⟨384 + d.val, by omega⟩)) (hv3 : ∀ n d, v3 (ix2 n d) = kv (ix2 n ⟨896 + d.val, by omega⟩))
    (j : S256x4096.Idx) :
    k0_pay1 x (k0_pay4 x g w k0 v0) (k0_pay5 (k0_pay3 x g w) k1 v1) (k0_pay6 (k0_pay3 x g w) k2 v2) k3 v3 (k0_pay7 (k0_pay3 x g w))
        (constant S256x256 .f32 0x00000000#32) wo j
      = res (fun c => x (ix2 (j 0) c)) (katt (query (fun d => x (ix2 (j 0) d)) (fun d => g (ix2 0 d)) (fun d k => w (ix2 d k))) (fun n i => kv (ix2 n i)))
          (fun k c => wo (ix2 k c)) (j 1) := by
  rw [pay1_apply, ← four_katt]
  have h0 : ∀ e : Fin 128, k0_pay4 x g w k0 v0 (ix2 (j 0) e) = kout (fun d => query (fun d => x (ix2 (j 0) d)) (fun d => g (ix2 0 d)) (fun d k => w (ix2 d k)) ⟨d.val, by omega⟩)
      (fun n d => kv (ix2 n ⟨d.val, by omega⟩)) (fun n => kv (ix2 n ⟨512 + e.val, by omega⟩)) := fun e =>
    (pay4_apply x g w k0 v0 (ix2 (j 0) e)).trans (kout_congr (fun d => pay3_apply x g w _) hk0 fun n => hv0 n e)
  have h1 : ∀ e : Fin 128, k0_pay5 (k0_pay3 x g w) k1 v1 (ix2 (j 0) e) = kout (fun d => query (fun d => x (ix2 (j 0) d)) (fun d => g (ix2 0 d)) (fun d k => w (ix2 d k)) ⟨128 + d.val, by omega⟩)
      (fun n d => kv (ix2 n ⟨128 + d.val, by omega⟩)) (fun n => kv (ix2 n ⟨640 + e.val, by omega⟩)) := fun e =>
    (pay5_apply (k0_pay3 x g w) k1 v1 (ix2 (j 0) e)).trans (kout_congr (fun d => pay3_apply x g w _) hk1 fun n => hv1 n e)
  have h2 : ∀ e : Fin 128, k0_pay6 (k0_pay3 x g w) k2 v2 (ix2 (j 0) e) = kout (fun d => query (fun d => x (ix2 (j 0) d)) (fun d => g (ix2 0 d)) (fun d k => w (ix2 d k)) ⟨256 + d.val, by omega⟩)
      (fun n d => kv (ix2 n ⟨256 + d.val, by omega⟩)) (fun n => kv (ix2 n ⟨768 + e.val, by omega⟩)) := fun e =>
    (pay6_apply (k0_pay3 x g w) k2 v2 (ix2 (j 0) e)).trans (kout_congr (fun d => pay3_apply x g w _) hk2 fun n => hv2 n e)
  have h3 : ∀ e : Fin 128, kout (fun d => k0_pay7 (k0_pay3 x g w) (ix2 (j 0) d)) (fun n d => k3 (ix2 n d)) (fun n => v3 (ix2 n e))
      = kout (fun d => query (fun d => x (ix2 (j 0) d)) (fun d => g (ix2 0 d)) (fun d k => w (ix2 d k)) ⟨384 + d.val, by omega⟩)
      (fun n d => kv (ix2 n ⟨384 + d.val, by omega⟩)) (fun n => kv (ix2 n ⟨896 + e.val, by omega⟩)) := fun e =>
    kout_congr (fun d => (pay7_apply (k0_pay3 x g w) (ix2 (j 0) d)).trans (pay3_apply x g w _)) hk3 fun n => hv3 n e
  rw [funext h0, funext h1, funext h2, funext h3]

/-- Arrays of two axes with equal entries are equal. -/
theorem ext2 {A B : Nat} {α : Type} {x y : (⟨2, ![A, B]⟩ : Shape).Idx → α} (h : ∀ a b, x (ix2 a b) = y (ix2 a b)) : x = y := by
  funext i
  have e : i = ix2 (i 0) (i 1) := funext fun a => by
    match a with
    | ⟨0, _⟩ => rfl
    | ⟨1, _⟩ => rfl
  rw [e]
  exact h _ _

/-- The same where the queries are computed from loads of the same blocks again. -/
theorem core6 (x x' : Vec Ideal S256x4096 .f32) (g g' : Vec Ideal S1x4096 .f32) (w w' : Vec Ideal S4096x512 .bf16) (k0 v0 k1 v1 k2 v2 k3 v3 : Vec Ideal S256x128 .bf16)
    (wo : Vec Ideal S512x4096 .bf16) (kv : Vec Ideal S256x1024 .bf16)
    (hx : ∀ r d, x' (ix2 r d) = x (ix2 r d)) (hg : ∀ (_ : Fin 1) d, g' (ix2 0 d) = g (ix2 0 d)) (hw : ∀ d k, w' (ix2 d k) = w (ix2 d k))
    (hk0 : ∀ n d, k0 (ix2 n d) = kv (ix2 n ⟨d.val, by omega⟩)) (hv0 : ∀ n d, v0 (ix2 n d) = kv (ix2 n ⟨512 + d.val, by omega⟩))
    (hk1 : ∀ n d, k1 (ix2 n d) = kv (ix2 n ⟨128 + d.val, by omega⟩)) (hv1 : ∀ n d, v1 (ix2 n d) = kv (ix2 n ⟨640 + d.val, by omega⟩))
    (hk2 : ∀ n d, k2 (ix2 n d) = kv (ix2 n ⟨256 + d.val, by omega⟩)) (hv2 : ∀ n d, v2 (ix2 n d) = kv (ix2 n ⟨768 + d.val, by omega⟩))
    (hk3 : ∀ n d, k3 (ix2 n d) = kv (ix2 n ⟨384 + d.val, by omega⟩)) (hv3 : ∀ n d, v3 (ix2 n d) = kv (ix2 n ⟨896 + d.val, by omega⟩))
    (j : S256x4096.Idx) :
    k0_pay1 x (k0_pay4 x' g' w' k0 v0) (k0_pay5 (k0_pay3 x' g' w') k1 v1) (k0_pay6 (k0_pay3 x' g' w') k2 v2) k3 v3 (k0_pay7 (k0_pay3 x' g' w'))
        (constant S256x256 .f32 0x00000000#32) wo j
      = res (fun c => x (ix2 (j 0) c)) (katt (query (fun d => x (ix2 (j 0) d)) (fun d => g (ix2 0 d)) (fun d k => w (ix2 d k))) (fun n i => kv (ix2 n i)))
          (fun k c => wo (ix2 k c)) (j 1) := by
  obtain rfl : x' = x := ext2 hx
  obtain rfl : g' = g := ext2 fun a b => by rw [Subsingleton.elim a 0]; exact hg 0 b
  obtain rfl : w' = w := ext2 hw
  exact core x' g' w' k0 v0 k1 v1 k2 v2 k3 v3 wo kv hk0 hv0 hk1 hv1 hk2 hv2 hk3 hv3 j

/-- The norms of the rows that an iteration stores in the second result. -/
theorem core7 (x x' : Vec Ideal S256x4096 .f32) (g g' : Vec Ideal S1x4096 .f32) (w w' : Vec Ideal S4096x512 .bf16) (k0 v0 k1 v1 k2 v2 k3 v3 : Vec Ideal S256x128 .bf16)
    (wo : Vec Ideal S512x4096 .bf16) (gm : Vec Ideal S1x4096 .f32) (kv : Vec Ideal S256x1024 .bf16)
    (hx : ∀ r d, x' (ix2 r d) = x (ix2 r d)) (hg : ∀ (_ : Fin 1) d, g' (ix2 0 d) = g (ix2 0 d)) (hw : ∀ d k, w' (ix2 d k) = w (ix2 d k))
    (hk0 : ∀ n d, k0 (ix2 n d) = kv (ix2 n ⟨d.val, by omega⟩)) (hv0 : ∀ n d, v0 (ix2 n d) = kv (ix2 n ⟨512 + d.val, by omega⟩))
    (hk1 : ∀ n d, k1 (ix2 n d) = kv (ix2 n ⟨128 + d.val, by omega⟩)) (hv1 : ∀ n d, v1 (ix2 n d) = kv (ix2 n ⟨640 + d.val, by omega⟩))
    (hk2 : ∀ n d, k2 (ix2 n d) = kv (ix2 n ⟨256 + d.val, by omega⟩)) (hv2 : ∀ n d, v2 (ix2 n d) = kv (ix2 n ⟨768 + d.val, by omega⟩))
    (hk3 : ∀ n d, k3 (ix2 n d) = kv (ix2 n ⟨384 + d.val, by omega⟩)) (hv3 : ∀ n d, v3 (ix2 n d) = kv (ix2 n ⟨896 + d.val, by omega⟩))
    (j : S256x4096.Idx) :
    k0_pay2 x (k0_pay4 x' g' w' k0 v0) (k0_pay5 (k0_pay3 x' g' w') k1 v1) (k0_pay6 (k0_pay3 x' g' w') k2 v2) k3 v3 (k0_pay7 (k0_pay3 x' g' w'))
        (constant S256x256 .f32 0x00000000#32) wo gm j
      = rmsn (res (fun c => x (ix2 (j 0) c)) (katt (query (fun d => x (ix2 (j 0) d)) (fun d => g (ix2 0 d)) (fun d k => w (ix2 d k))) (fun n i => kv (ix2 n i)))
          (fun k c => wo (ix2 k c))) (fun c => gm (ix2 0 c)) (j 1) := by
  rw [pay2_apply]
  exact congrArg (fun r => rmsn r _ (j 1)) (funext fun c => core6 x x' g g' w w' k0 v0 k1 v1 k2 v2 k3 v3 wo kv hx hg hw hk0 hv0 hk1 hv1 hk2 hv2 hk3 hv3 (ix2 (j 0) c))

variable (m : (ℓ : Loc nD τ sig) → Buf (Elt Ideal) ℓ)

/-- The blocks of the windows at an iteration: its 256 rows, the keys and values of its batch element, and the whole weights and gains. -/
theorem idx : ∀ t : Fin cfg0.N, (win0_0.index t = ![t.val, 0]) ∧ (win0_1.index t = ![0, 0]) ∧ (win0_2.index t = ![0, 0])
      ∧ (win0_3.index t = ![t.val / 16, 0]) ∧ (win0_4.index t = ![0, 0]) ∧ (win0_5.index t = ![0, 0])
      ∧ (win0_6.index t = ![t.val, 0]) ∧ (win0_7.index t = ![t.val, 0]) :=
  (by decide +kernel : ∀ t : Fin grid0.N, _)

/-- The rows of an iteration. -/
theorem x_at (c : Dev nD) (t : Fin cfg0.N) (ht : t.val < 64) (r : Fin 256) (d : Fin 4096) :
    iblk m c 0 t (ix2 r d) = m ((c : Thread nD τ).loc main_arg0) (ix2 ⟨t.val * 256 + r.val, by omega⟩ d) := by
  blk_point [iblk, V, idx t]

/-- The first gain. -/
theorem g_at (c : Dev nD) (t : Fin cfg0.N) (d : Fin 4096) :
    iblk m c 1 t (ix2 0 d) = m ((c : Thread nD τ).loc main_arg2) (ix2 0 d) := by
  blk_point [iblk, V, idx t]

/-- The weights of the queries. -/
theorem w_at (c : Dev nD) (t : Fin cfg0.N) (d : Fin 4096) (k : Fin 512) :
    iblk m c 2 t (ix2 d k) = m ((c : Thread nD τ).loc main_arg3) (ix3 0 d k) := by
  blk_point [iblk, V, idx t]

/-- The keys and values of the batch element. -/
theorem kv_at (c : Dev nD) (t : Fin cfg0.N) (ht : t.val < 64) (n : Fin 256) (i : Fin 1024) :
    iblk m c 3 t (ix2 n i) = m ((c : Thread nD τ).loc main_arg1) (ix2 ⟨t.val / 16 * 256 + n.val, by omega⟩ i) := by
  blk_point [iblk, V, idx t]

/-- The output weights. -/
theorem wo_at (c : Dev nD) (t : Fin cfg0.N) (k : Fin 512) (d : Fin 4096) :
    iblk m c 4 t (ix2 k d) = m ((c : Thread nD τ).loc main_arg4) (ix3 0 k d) := by
  blk_point [iblk, V, idx t]

/-- The second gain. -/
theorem gm_at (c : Dev nD) (t : Fin cfg0.N) (d : Fin 4096) :
    iblk m c 5 t (ix2 0 d) = m ((c : Thread nD τ).loc main_arg5) (ix2 0 d) := by
  blk_point [iblk, V, idx t]

/-- The first result, as the reference computes it: the rows after the sublayer. -/
abbrev G6 (x0 : FVec Ideal S16384x4096 .f32) (x1 : FVec Ideal S1024x1024 .bf16) (x2 : FVec Ideal S1x4096 .f32) (x3 : FVec Ideal S1x4096x512 .f32)
    (x4 : FVec Ideal S1x512x4096 .f32) : FVec Ideal S16384x4096 .f32 := Cert.CrossRefIdeal.Read.val_main_v47 (F := Ideal) x0 x1 x2 x3 x4

/-- The second result, as the reference computes it: the normed rows. -/
abbrev G7 (x0 : FVec Ideal S16384x4096 .f32) (x1 : FVec Ideal S1024x1024 .bf16) (x2 : FVec Ideal S1x4096 .f32) (x3 : FVec Ideal S1x4096x512 .f32)
    (x4 : FVec Ideal S1x512x4096 .f32) (x5 : FVec Ideal S1x4096 .f32) : FVec Ideal S16384x4096 .bf16 := Cert.CrossRefIdeal.Read.val_main_v62 (F := Ideal) x0 x1 x2 x3 x4 x5

/-- The rows, the keys, the first gain and the weights of the queries are real. -/
def Reals (x0 : FVec Ideal S16384x4096 .f32) (x1 : FVec Ideal S1024x1024 .bf16) (x2 : FVec Ideal S1x4096 .f32) (x3 : FVec Ideal S1x4096x512 .f32) : Prop :=
  (∀ i, x0 i = (((x0 i : EReal).toReal : ℝ) : EReal)) ∧ (∀ (n : Fin 1024) (k : Fin 512), x1 (ix2 n ⟨k.val, by omega⟩) = (((x1 (ix2 n ⟨k.val, by omega⟩) : EReal).toReal : ℝ) : EReal))
    ∧ (∀ i, x2 i = (((x2 i : EReal).toReal : ℝ) : EReal)) ∧ ∀ i, x3 i = (((x3 i : EReal).toReal : ℝ) : EReal)

/-- The keys: the first half of the memory's columns. -/
def keys [Cert.Pre_finite_scores.Facts] (x1 : FVec Ideal S1024x1024 .bf16) : FVec Ideal Cert.Pre_finite_scores.S1024x512 .bf16 :=
  extractStridedSlice Cert.Pre_finite_scores.S1024x512 ![0, 0] x1 Cert.Pre_finite_scores.Facts.slices_S1024x1024_S1024x512_0_0

/-- What the precondition says: the rows, the keys, the first gain and the weights of the queries are real. -/
theorem reals_of_pre [Cert.Pre_finite_scores.Facts] (x0 : FVec Ideal S16384x4096 .f32) (x1 : FVec Ideal S1024x1024 .bf16) (x2 : FVec Ideal S1x4096 .f32) (x3 : FVec Ideal S1x4096x512 .f32)
    (x4 : FVec Ideal S1x512x4096 .f32) (x5 : FVec Ideal S1x4096 .f32)
    (h : (Cert.Pre_finite_scores.fn (F := Ideal) x0 x1 x2 x3 x4 x5).1 = (fun _ => 1#1)
      ∧ (Cert.Pre_finite_scores.fn (F := Ideal) x0 x1 x2 x3 x4 x5).2.1 = (fun _ => 1#1)
      ∧ (Cert.Pre_finite_scores.fn (F := Ideal) x0 x1 x2 x3 x4 x5).2.2.1 = (fun _ => 1#1)
      ∧ (Cert.Pre_finite_scores.fn (F := Ideal) x0 x1 x2 x3 x4 x5).2.2.2 = (fun _ => 1#1)) : Reals x0 x1 x2 x3 := by
  obtain ⟨h0, h1, h2, h3⟩ := h
  refine ⟨Cert.Hand.Diff.reals x0 _ h0, fun n k => ?_, Cert.Hand.Diff.reals x2 _ h2, Cert.Hand.Diff.reals x3 _ h3⟩
  have e : keys x1 (ix2 n k) = x1 (ix2 n ⟨k.val, by omega⟩) := by
    pointwise [keys]
  have r1 := Cert.Hand.Diff.reals (extf .f32 (keys x1) Cert.Pre_finite_scores.Facts.bitsLt_bf16_f32) Cert.Pre_finite_scores.Facts.bcast_S_S1024x512 h1 (ix2 n k)
  have r1 : keys x1 (ix2 n k) = (((keys x1 (ix2 n k) : EReal).toReal : ℝ) : EReal) := r1
  rw [e] at r1
  exact r1

/-- The reference's first result with the heads as the kernel computes them. -/
theorem G6_at (x0 : FVec Ideal S16384x4096 .f32) (x1 : FVec Ideal S1024x1024 .bf16) (x2 : FVec Ideal S1x4096 .f32) (x3 : FVec Ideal S1x4096x512 .f32)
    (x4 : FVec Ideal S1x512x4096 .f32) (h : Reals x0 x1 x2 x3) (R : Fin 16384) (c : Fin 4096) : G6 x0 x1 x2 x3 x4 (ix2 R c)
    = res (fun c => x0 (ix2 R c)) (katt (query (fun d => x0 (ix2 R d)) (fun d => x2 (ix2 0 d)) (fun d k => x3 (ix3 0 d k)))
        (fun n i => x1 (ix2 ⟨R.val / 4096 * 256 + n.val, by omega⟩ i))) (fun k c => x4 (ix3 0 k c)) c := by
  obtain ⟨h0, h1, h2, h3⟩ := h
  obtain ⟨q, hq⟩ := query_real (fun d => (x0 (ix2 R d) : EReal).toReal) (fun d => (x2 (ix2 0 d) : EReal).toReal) (fun d k => (x3 (ix3 0 d k) : EReal).toReal)
  simp only [← h0, ← h2, ← h3] at hq
  rw [katt_eq _ _ q hq fun n k => h1 _ k]
  refine (CrossR.v47_at x0 x1 x2 x3 x4 R c).trans ?_
  exact congrArg (fun a => res _ a _ c) (funext fun k => CrossR.v44_ratt x0 x1 x2 x3 R k)

/-- The reference's rows, place by place, from an iteration's blocks. -/
theorem row_at (c : Dev nD) (h : Reals (m ((c : Thread nD τ).loc main_arg0)) (m ((c : Thread nD τ).loc main_arg1)) (m ((c : Thread nD τ).loc main_arg2)) (m ((c : Thread nD τ).loc main_arg3)))
    (t : Fin cfg0.N) (ht : t.val < 64) (r : Fin 256) (d : Fin 4096) :
    res (fun c' => iblk m c 0 t (ix2 r c')) (katt (query (fun d => iblk m c 0 t (ix2 r d)) (fun d => iblk m c 1 t (ix2 0 d)) (fun d k => iblk m c 2 t (ix2 d k)))
        (fun n i => iblk m c 3 t (ix2 n i))) (fun k c' => iblk m c 4 t (ix2 k c')) d
      = G6 (m ((c : Thread nD τ).loc main_arg0)) (m ((c : Thread nD τ).loc main_arg1)) (m ((c : Thread nD τ).loc main_arg2)) (m ((c : Thread nD τ).loc main_arg3))
          (m ((c : Thread nD τ).loc main_arg4)) (ix2 ⟨t.val * 256 + r.val, by omega⟩ d) := by
  rw [G6_at _ _ _ _ _ h]
  have hn : ∀ n : Fin 256, (⟨t.val / 16 * 256 + n.val, by omega⟩ : Fin 1024) = ⟨(t.val * 256 + r.val) / 4096 * 256 + n.val, by omega⟩ := fun n =>
    Fin.ext (by show t.val / 16 * 256 + n.val = (t.val * 256 + r.val) / 4096 * 256 + n.val; omega)
  simp only [x_at m c t ht, g_at m c t, w_at m c t, kv_at m c t ht, wo_at m c t, hn]

/-- The first result array after the run is the reference's. -/
theorem final6 (c : Dev nD) (h : Reals (m ((c : Thread nD τ).loc main_arg0)) (m ((c : Thread nD τ).loc main_arg1)) (m ((c : Thread nD τ).loc main_arg2)) (m ((c : Thread nD τ).loc main_arg3))) :
    (dats m 0 c).arrAt 6 cfg0.N
      = G6 (m ((c : Thread nD τ).loc main_arg0)) (m ((c : Thread nD τ).loc main_arg1)) (m ((c : Thread nD τ).loc main_arg2)) (m ((c : Thread nD τ).loc main_arg3))
          (m ((c : Thread nD τ).loc main_arg4)) := by
  refine (dats m 0 c).arrAt_eq_of_covers 6 _ (by decide +kernel) fun t hf y => ?_
  have ht : t.val < 64 := lt_of_lt_of_eq t.isLt N_0
  obtain ⟨r, d, rfl⟩ : ∃ (r : Fin 256) (d : Fin 4096), y = ix2 r d := ⟨y 0, y 1, funext fun a => by
    match a with
    | ⟨0, _⟩ => rfl
    | ⟨1, _⟩ => rfl⟩
  have he : ((cfg0.win 6).blk t).view.emb (ix2 r d) = (ix2 ⟨t.val * 256 + r.val, by omega⟩ d : S16384x4096.Idx) := by
    blk_point [idx t]
  rw [he, ← row_at m c h t ht]
  blk_simp
  rw [after0_6]
  frame_out
  unfold k0_pay9 k0_pay10 k0_pay11 k0_pay12 k0_pay13 k0_pay8
  refine core6 _ _ (iblk m c 1 t) _ (iblk m c 2 t) _ _ _ _ _ _ _ _ _ _ (iblk m c 3 t) ?_ ?_ ?_ ?_ ?_ ?_ ?_ ?_ ?_ ?_ ?_ (ix2 r d)
  all_goals intro a b; pointwise []

/-- The reference's second result is the norm of its first one. -/
theorem G7_at (x0 : FVec Ideal S16384x4096 .f32) (x1 : FVec Ideal S1024x1024 .bf16) (x2 : FVec Ideal S1x4096 .f32) (x3 : FVec Ideal S1x4096x512 .f32)
    (x4 : FVec Ideal S1x512x4096 .f32) (x5 : FVec Ideal S1x4096 .f32) (R : Fin 16384) (c : Fin 4096) : G7 x0 x1 x2 x3 x4 x5 (ix2 R c)
    = rmsn (fun c => G6 x0 x1 x2 x3 x4 (ix2 R c)) (fun c => x5 (ix2 0 c)) c :=
  CrossR.v62_at x0 x1 x2 x3 x4 x5 R c

/-- The second result array after the run is the reference's. -/
theorem final7 (c : Dev nD) (h : Reals (m ((c : Thread nD τ).loc main_arg0)) (m ((c : Thread nD τ).loc main_arg1)) (m ((c : Thread nD τ).loc main_arg2)) (m ((c : Thread nD τ).loc main_arg3))) :
    (dats m 0 c).arrAt 7 cfg0.N
      = G7 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m 0 c).arrAt_eq_of_covers 7 _ (by decide +kernel) fun t hf y => ?_
  have ht : t.val < 64 := lt_of_lt_of_eq t.isLt N_0
  obtain ⟨r, d, rfl⟩ : ∃ (r : Fin 256) (d : Fin 4096), y = ix2 r d := ⟨y 0, y 1, funext fun a => by
    match a with
    | ⟨0, _⟩ => rfl
    | ⟨1, _⟩ => rfl⟩
  have he : ((cfg0.win 7).blk t).view.emb (ix2 r d) = (ix2 ⟨t.val * 256 + r.val, by omega⟩ d : S16384x4096.Idx) := by
    blk_point [idx t]
  rw [he, G7_at, ← funext fun d => row_at m c h t ht r d]
  simp only [← gm_at m c t]
  blk_simp
  rw [after0_7]
  frame_out
  unfold k0_pay9 k0_pay10 k0_pay11 k0_pay12 k0_pay13 k0_pay8
  refine core7 _ _ (iblk m c 1 t) _ (iblk m c 2 t) _ _ _ _ _ _ _ _ _ _ _ (iblk m c 3 t) ?_ ?_ ?_ ?_ ?_ ?_ ?_ ?_ ?_ ?_ ?_ (ix2 r d)
  all_goals intro a b; pointwise []

end Cert.Hand.Cross

end
-- ==== Proof.lean ====
/- The proof of the claim: each program's run leaves its arguments alone, and each kernel's result is its reference's. -/
module

public import proofs.«01_k».proof.Defs
public import proofs.«01_k».proof.Proof.Gen.Diff
public import proofs.«01_k».proof.Proof.Gen.Diff.Frame
public import proofs.«01_k».proof.Proof.Gen.DiffIdeal
public import proofs.«01_k».proof.Proof.Gen.DiffIdeal.Value
public import proofs.«01_k».proof.Proof.Gen.DiffRefIdeal
public import proofs.«01_k».proof.Proof.Gen.DiffRefIdeal.Read
public import proofs.«01_k».proof.Proof.DiffFinal
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Read
public import proofs.«01_k».proof.Proof.UpValue
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Read
public import proofs.«01_k».proof.Proof.DownValue
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Read
public import proofs.«01_k».proof.Proof.OutValue
public import proofs.«01_k».proof.Proof.Gen.Inp
public import proofs.«01_k».proof.Proof.Gen.Inp.Frame
public import proofs.«01_k».proof.Proof.Gen.InpIdeal
public import proofs.«01_k».proof.Proof.Gen.InpIdeal.Value
public import proofs.«01_k».proof.Proof.Gen.InpRefIdeal
public import proofs.«01_k».proof.Proof.Gen.InpRefIdeal.Read
public import proofs.«01_k».proof.Proof.InpValue
public import proofs.«01_k».proof.Proof.Gen.Fin
public import proofs.«01_k».proof.Proof.Gen.Fin.Frame
public import proofs.«01_k».proof.Proof.Gen.FinIdeal
public import proofs.«01_k».proof.Proof.Gen.FinIdeal.Value
public import proofs.«01_k».proof.Proof.Gen.FinRefIdeal
public import proofs.«01_k».proof.Proof.Gen.FinRefIdeal.Read
public import proofs.«01_k».proof.Proof.FinValue
public import proofs.«01_k».proof.Proof.Gen.MixNorm
public import proofs.«01_k».proof.Proof.Gen.MixNorm.Frame
public import proofs.«01_k».proof.Proof.Gen.MixNormIdeal
public import proofs.«01_k».proof.Proof.Gen.MixNormIdeal.Value
public import proofs.«01_k».proof.Proof.Gen.MixNormRefIdeal
public import proofs.«01_k».proof.Proof.Gen.MixNormRefIdeal.Read
public import proofs.«01_k».proof.Proof.MixNormValue
public import proofs.«01_k».proof.Proof.Gen.MemNorm
public import proofs.«01_k».proof.Proof.Gen.MemNorm.Frame
public import proofs.«01_k».proof.Proof.Gen.MemNormIdeal
public import proofs.«01_k».proof.Proof.Gen.MemNormIdeal.Value
public import proofs.«01_k».proof.Proof.Gen.MemNormRefIdeal
public import proofs.«01_k».proof.Proof.Gen.MemNormRefIdeal.Read
public import proofs.«01_k».proof.Proof.MemNormValue
public import proofs.«01_k».proof.Proof.Gen.MemKv
public import proofs.«01_k».proof.Proof.Gen.MemKv.Frame
public import proofs.«01_k».proof.Proof.Gen.MemKvIdeal
public import proofs.«01_k».proof.Proof.Gen.MemKvIdeal.Value
public import proofs.«01_k».proof.Proof.Gen.MemKvRefIdeal
public import proofs.«01_k».proof.Proof.Gen.MemKvRefIdeal.Read
public import proofs.«01_k».proof.Proof.MemKvValue
public import proofs.«01_k».proof.Proof.Gen.Cross
public import proofs.«01_k».proof.Proof.Gen.Cross.Frame
public import proofs.«01_k».proof.Proof.Gen.CrossIdeal
public import proofs.«01_k».proof.Proof.Gen.CrossIdeal.Value
public import proofs.«01_k».proof.Proof.Gen.CrossRefIdeal
public import proofs.«01_k».proof.Proof.Gen.CrossRefIdeal.Read
public import proofs.«01_k».proof.Proof.CrossValue
public import proofs.«01_k».proof.Proof.Gen.Pre_finite_inputs
public import proofs.«01_k».proof.Proof.Gen.Pre_finite_scores
public import Idealize.ShloMosaic.Lib.Claim

@[expose] public section

set_option maxRecDepth 16384

noncomputable section

namespace Cert.Proof

open Idealize.ShloMosaic Idealize.SL.Sem

/-- Every run of the reference of the differential attention ends and leaves its arguments as they were. -/
theorem frame_DiffRefIdeal : Cert.quiescent_DiffRefIdeal := fun m g _ =>
  (θ_run Cert.DiffRefIdeal.defs _ _).mono (fun r h => ⟨fun c => (h c).2, sem_eq_zero_of_no_sems (by decide) r.2⟩)
    (Cert.DiffRefIdeal.Value.run m g)

/-- The same from the inputs the precondition admits. -/
theorem frame_DiffRefIdeal_pre : Cert.quiescent_DiffRefIdeal_pre_finite_inputs := fun m g _ =>
  (θ_run Cert.DiffRefIdeal.defs _ _).mono (fun r h => ⟨fun c => (h c).2, sem_eq_zero_of_no_sems (by decide) r.2⟩)
    (Cert.DiffRefIdeal.Value.run m g)

/-- The named constants stand for the numbers the kernel's literals were computed from. -/
theorem preserves_Diff : Cert.preserves_Diff_DiffIdeal := ⟨IdealRules.named_const.statement Cert.DiffIdeal.κ "mask" .f32 0xF149F2CA#32 _ rfl,
  IdealRules.named_const.statement Cert.DiffIdeal.κ "c" .f32 0x3E0293EE#32 _ rfl⟩

/-- Run from the same arguments over the extended reals, the kernel of the differential attention and its reference end with the same result. -/
theorem algebraic_Diff : Cert.algebraic_DiffIdeal_DiffRefIdeal_pre_finite_inputs := by
  pair_intro
  · run_from Cert.DiffIdeal.Gen.run_main m g
  · run_from Cert.DiffRefIdeal.Value.run m' g'
    obtain ⟨h0, h1, h2, h3, h4, h5, h6⟩ := hagree c
    refine (Cert.DiffRefIdeal.Read.val_main_v67_eq m' c).trans ?_
    rw [h0, h1, h2, h3, h4, h5, h6]
    exact (Cert.Hand.Diff.final m c (hpre c)).symm

/-- Every run of the reference of the MLP's first projection ends and leaves its arguments as they were. -/
theorem frame_UpRefIdeal : Cert.quiescent_UpRefIdeal := fun m g _ =>
  (θ_run Cert.UpRefIdeal.defs _ _).mono (fun r h => ⟨fun c => (h c).2, sem_eq_zero_of_no_sems (by decide) r.2⟩)
    (Cert.UpRefIdeal.Value.run m g)

/-- Run from the same arguments over the extended reals, the kernel of the MLP's first projection and its reference end with the same result. -/
theorem algebraic_Up : Cert.algebraic_UpIdeal_UpRefIdeal := by
  pair_intro
  · run_from Cert.UpIdeal.Gen.run_main m g
  · run_from Cert.UpRefIdeal.Value.run m' g'
    exact (Cert.UpRefIdeal.Read.val_main_v5_eq ..).trans (Cert.Hand.Up.final m c).symm

/-- Every run of the reference of the MLP's second projection ends and leaves its arguments as they were. -/
theorem frame_DownRefIdeal : Cert.quiescent_DownRefIdeal := fun m g _ =>
  (θ_run Cert.DownRefIdeal.defs _ _).mono (fun r h => ⟨fun c => (h c).2, sem_eq_zero_of_no_sems (by decide) r.2⟩)
    (Cert.DownRefIdeal.Value.run m g)

/-- Run from the same arguments over the extended reals, the kernel of the MLP's second projection and its reference end with the same result. -/
theorem algebraic_Down : Cert.algebraic_DownIdeal_DownRefIdeal := by
  pair_intro
  · run_from Cert.DownIdeal.Gen.run_main m g
  · run_from Cert.DownRefIdeal.Value.run m' g'
    exact (Cert.DownRefIdeal.Read.val_main_v3_eq ..).trans (Cert.Hand.Down.final m c).symm

/-- Every run of the reference of the mixers' output projection ends and leaves its arguments as they were. -/
theorem frame_OutRefIdeal : Cert.quiescent_OutRefIdeal := fun m g _ =>
  (θ_run Cert.OutRefIdeal.defs _ _).mono (fun r h => ⟨fun c => (h c).2, sem_eq_zero_of_no_sems (by decide) r.2⟩)
    (Cert.OutRefIdeal.Value.run m g)

/-- Run from the same arguments over the extended reals, the kernel of the mixers' output projection and its reference end with the same result. -/
theorem algebraic_Out : Cert.algebraic_OutIdeal_OutRefIdeal := by
  pair_intro
  · run_from Cert.OutIdeal.Gen.run_main m g
  · run_from Cert.OutRefIdeal.Value.run m' g'
    exact (Cert.OutRefIdeal.Read.val_main_v3_eq ..).trans (Cert.Hand.Out.final m c).symm

/-- Every run of the reference of the input projection ends and leaves its arguments as they were. -/
theorem frame_InpRefIdeal : Cert.quiescent_InpRefIdeal := fun m g _ =>
  (θ_run Cert.InpRefIdeal.defs _ _).mono (fun r h => ⟨fun c => (h c).2, sem_eq_zero_of_no_sems (by decide) r.2⟩)
    (Cert.InpRefIdeal.Value.run m g)

/-- Run from the same arguments over the extended reals, the kernel of the input projection and its reference end with the same result. -/
theorem algebraic_Inp : Cert.algebraic_InpIdeal_InpRefIdeal := by
  pair_intro
  · run_from Cert.InpIdeal.Gen.run_main m g
  · run_from Cert.InpRefIdeal.Value.run m' g'
    obtain ⟨h0, h1⟩ := hagree c
    refine (Cert.InpRefIdeal.Read.val_main_v126_eq m' c).trans ?_
    rw [h0, h1]
    exact (Cert.Hand.Inp.final m c).symm

/-- Every run of the reference of the final norm ends and leaves its arguments as they were. -/
theorem frame_FinRefIdeal : Cert.quiescent_FinRefIdeal := fun m g _ =>
  (θ_run Cert.FinRefIdeal.defs _ _).mono (fun r h => ⟨fun c => (h c).2, sem_eq_zero_of_no_sems (by decide) r.2⟩)
    (Cert.FinRefIdeal.Value.run m g)

/-- Run from the same arguments over the extended reals, the kernel of the final norm and its reference end with the same result. -/
theorem algebraic_Fin : Cert.algebraic_FinIdeal_FinRefIdeal := by
  pair_intro
  · run_from Cert.FinIdeal.Gen.run_main m g
  · run_from Cert.FinRefIdeal.Value.run m' g'
    exact (Cert.FinRefIdeal.Read.val_main_v12_eq ..).trans (Cert.Hand.Fin.final m c).symm

/-- Every run of the reference of the norm before the mixers ends and leaves its arguments as they were. -/
theorem frame_MixNormRefIdeal : Cert.quiescent_MixNormRefIdeal := fun m g _ =>
  (θ_run Cert.MixNormRefIdeal.defs _ _).mono (fun r h => ⟨fun c => (h c).2, sem_eq_zero_of_no_sems (by decide) r.2⟩)
    (Cert.MixNormRefIdeal.Value.run m g)

/-- Run from the same arguments over the extended reals, the kernel of the norm before the mixers and its reference end with the same result. -/
theorem algebraic_MixNorm : Cert.algebraic_MixNormIdeal_MixNormRefIdeal := by
  pair_intro
  · run_from Cert.MixNormIdeal.Gen.run_main m g
  · run_from Cert.MixNormRefIdeal.Value.run m' g'
    exact (Cert.MixNormRefIdeal.Read.val_main_v14_eq ..).trans (Cert.Hand.MixNorm.final m c).symm

/-- Every run of the reference of the norm of the memory ends and leaves its arguments as they were. -/
theorem frame_MemNormRefIdeal : Cert.quiescent_MemNormRefIdeal := fun m g _ =>
  (θ_run Cert.MemNormRefIdeal.defs _ _).mono (fun r h => ⟨fun c => (h c).2, sem_eq_zero_of_no_sems (by decide) r.2⟩)
    (Cert.MemNormRefIdeal.Value.run m g)

/-- Run from the same arguments over the extended reals, the kernel of the norm of the memory and its reference end with the same result. -/
theorem algebraic_MemNorm : Cert.algebraic_MemNormIdeal_MemNormRefIdeal := by
  pair_intro
  · run_from Cert.MemNormIdeal.Gen.run_main m g
  · run_from Cert.MemNormRefIdeal.Value.run m' g'
    exact (Cert.MemNormRefIdeal.Read.val_main_v14_eq ..).trans (Cert.Hand.MemNorm.final m c).symm

/-- Every run of the reference of the memory's keys and values ends and leaves its arguments as they were. -/
theorem frame_MemKvRefIdeal : Cert.quiescent_MemKvRefIdeal := fun m g _ =>
  (θ_run Cert.MemKvRefIdeal.defs _ _).mono (fun r h => ⟨fun c => (h c).2, sem_eq_zero_of_no_sems (by decide) r.2⟩)
    (Cert.MemKvRefIdeal.Value.run m g)

/-- Run from the same arguments over the extended reals, the kernel of the memory's keys and values and its reference end with the same result. -/
theorem algebraic_MemKv : Cert.algebraic_MemKvIdeal_MemKvRefIdeal := by
  pair_intro
  · run_from Cert.MemKvIdeal.Gen.run_main m g
  · run_from Cert.MemKvRefIdeal.Value.run m' g'
    exact (Cert.MemKvRefIdeal.Read.val_main_v3_eq ..).trans (Cert.Hand.MemKv.final m c).symm

/-- Every run of the reference of the memory cross-attention ends and leaves its arguments as they were. -/
theorem frame_CrossRefIdeal : Cert.quiescent_CrossRefIdeal := fun m g _ =>
  (θ_run Cert.CrossRefIdeal.defs _ _).mono (fun r h => ⟨fun c => (h c).2.2, sem_eq_zero_of_no_sems (by decide) r.2⟩)
    (Cert.CrossRefIdeal.Value.run m g)

/-- The same from the inputs the precondition admits. -/
theorem frame_CrossRefIdeal_pre : Cert.quiescent_CrossRefIdeal_pre_finite_scores := fun m g _ =>
  (θ_run Cert.CrossRefIdeal.defs _ _).mono (fun r h => ⟨fun c => (h c).2.2, sem_eq_zero_of_no_sems (by decide) r.2⟩)
    (Cert.CrossRefIdeal.Value.run m g)

/-- The named constant stands for the number the kernel's literal was computed from. -/
theorem preserves_Cross : Cert.preserves_Cross_CrossIdeal :=
  IdealRules.named_const.statement Cert.CrossIdeal.κ "c" .f32 0x3E0293EE#32 _ rfl

/-- Run from the same arguments over the extended reals, the kernel of the memory cross-attention and its reference end with the same two results. -/
theorem algebraic_Cross : Cert.algebraic_CrossIdeal_CrossRefIdeal_pre_finite_scores := by
  pair_intro
  · run_from Cert.CrossIdeal.Gen.run_main m g
  · run_from Cert.CrossRefIdeal.Value.run m' g'
    · obtain ⟨h0, h1, h2, h3, h4, h5⟩ := hagree c
      refine (Cert.CrossRefIdeal.Read.val_main_v47_eq m' c).trans ?_
      rw [h0, h1, h2, h3, h4]
      exact (Cert.Hand.Cross.final6 m c (Cert.Hand.Cross.reals_of_pre _ _ _ _ _ _ (hpre c))).symm
    · obtain ⟨h0, h1, h2, h3, h4, h5⟩ := hagree c
      refine (Cert.CrossRefIdeal.Read.val_main_v62_eq m' c).trans ?_
      rw [h0, h1, h2, h3, h4, h5]
      exact (Cert.Hand.Cross.final7 m c (Cert.Hand.Cross.reals_of_pre _ _ _ _ _ _ (hpre c))).symm

/-- The claim, conjunct by conjunct. -/
theorem claim : Cert.Claim :=
  ⟨Cert.Diff.Gen.facts,
    Cert.DiffIdeal.Gen.facts,
    Cert.DiffRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.Inp.Gen.facts,
    Cert.InpIdeal.Gen.facts,
    Cert.InpRefIdeal.Gen.facts,
    Cert.Fin.Gen.facts,
    Cert.FinIdeal.Gen.facts,
    Cert.FinRefIdeal.Gen.facts,
    Cert.MixNorm.Gen.facts,
    Cert.MixNormIdeal.Gen.facts,
    Cert.MixNormRefIdeal.Gen.facts,
    Cert.MemNorm.Gen.facts,
    Cert.MemNormIdeal.Gen.facts,
    Cert.MemNormRefIdeal.Gen.facts,
    Cert.MemKv.Gen.facts,
    Cert.MemKvIdeal.Gen.facts,
    Cert.MemKvRefIdeal.Gen.facts,
    Cert.Cross.Gen.facts,
    Cert.CrossIdeal.Gen.facts,
    Cert.CrossRefIdeal.Gen.facts,
    Cert.Pre_finite_inputs.Gen.facts,
    Cert.Pre_finite_scores.Gen.facts,
    fun m g _ => Cert.Diff.Gen.frame m g,
    fun m g _ => Cert.DiffIdeal.Gen.frame m g,
    fun m g _ => Cert.DiffIdeal.Gen.frame m g,
    frame_DiffRefIdeal,
    frame_DiffRefIdeal_pre,
    fun m g _ => Cert.Up.Gen.frame m g,
    fun m g _ => Cert.UpIdeal.Gen.frame m g,
    frame_UpRefIdeal,
    fun m g _ => Cert.Down.Gen.frame m g,
    fun m g _ => Cert.DownIdeal.Gen.frame m g,
    frame_DownRefIdeal,
    fun m g _ => Cert.Out.Gen.frame m g,
    fun m g _ => Cert.OutIdeal.Gen.frame m g,
    frame_OutRefIdeal,
    fun m g _ => Cert.Inp.Gen.frame m g,
    fun m g _ => Cert.InpIdeal.Gen.frame m g,
    frame_InpRefIdeal,
    fun m g _ => Cert.Fin.Gen.frame m g,
    fun m g _ => Cert.FinIdeal.Gen.frame m g,
    frame_FinRefIdeal,
    fun m g _ => Cert.MixNorm.Gen.frame m g,
    fun m g _ => Cert.MixNormIdeal.Gen.frame m g,
    frame_MixNormRefIdeal,
    fun m g _ => Cert.MemNorm.Gen.frame m g,
    fun m g _ => Cert.MemNormIdeal.Gen.frame m g,
    frame_MemNormRefIdeal,
    fun m g _ => Cert.MemKv.Gen.frame m g,
    fun m g _ => Cert.MemKvIdeal.Gen.frame m g,
    frame_MemKvRefIdeal,
    fun m g _ => Cert.Cross.Gen.frame m g,
    fun m g _ => Cert.CrossIdeal.Gen.frame m g,
    fun m g _ => Cert.CrossIdeal.Gen.frame m g,
    frame_CrossRefIdeal,
    frame_CrossRefIdeal_pre,
    preserves_Diff,
    algebraic_Diff,
    trivial,
    algebraic_Up,
    trivial,
    algebraic_Down,
    trivial,
    algebraic_Out,
    trivial,
    algebraic_Inp,
    trivial,
    algebraic_Fin,
    trivial,
    algebraic_MixNorm,
    trivial,
    algebraic_MemNorm,
    trivial,
    algebraic_MemKv,
    preserves_Cross,
    algebraic_Cross⟩

end Cert.Proof

end
